-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_is_finite [hPre_gain_is_finite : Cert.Pre_gain_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_is_finite [hPre_gain_is_finite : Cert.Pre_gain_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gain_is_finite [hKernelIdeal : Cert.KernelIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gain_is_finite [hReferenceIdeal : Cert.ReferenceIdeal.Facts] [hPre_gain_is_finite : Cert.Pre_gain_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gain_is_finite [hKernelIdeal : Cert.KernelIdeal.Facts] [hReferenceIdeal : Cert.ReferenceIdeal.Facts] [hPre_gain_is_finite : Cert.Pre_gain_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gain_is_finite : Cert.Pre_gain_is_finite.Facts),
    quiescent_Kernel (hKernel := hKernel)
    ∧ quiescent_KernelIdeal (hKernelIdeal := hKernelIdeal)
    ∧ quiescent_KernelIdeal_pre_gain_is_finite (hKernelIdeal := hKernelIdeal) (hPre_gain_is_finite := hPre_gain_is_finite)
    ∧ quiescent_ReferenceIdeal (hReferenceIdeal := hReferenceIdeal)
    ∧ quiescent_ReferenceIdeal_pre_gain_is_finite (hReferenceIdeal := hReferenceIdeal) (hPre_gain_is_finite := hPre_gain_is_finite)
    ∧ preserves_Kernel_KernelIdeal
    ∧ algebraic_KernelIdeal_ReferenceIdeal_pre_gain_is_finite (hKernelIdeal := hKernelIdeal) (hReferenceIdeal := hReferenceIdeal) (hPre_gain_is_finite := hPre_gain_is_finite)
-- ==== Pre_gain_is_finite.lean ====
abbrev S4x8x2048x4096 : Shape := ⟨4, ![4, 8, 2048, 4096]⟩
abbrev S4x8x2048 : Shape := ⟨3, ![4, 8, 2048]⟩
abbrev S4096 : Shape := ⟨1, ![4096]⟩
abbrev S8x2048x4096 : Shape := ⟨3, ![8, 2048, 4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4x8x2048x4096 .fp8e4m3) (main_arg1 : FVec F S4x8x2048 .f32) (main_arg2 : FVec F S4096 .f32) (main_arg3 : FVec F S4096 .f32) (main_arg4 : FVec F S8x2048x4096 .bf16) (main_arg5 : FVec F S4096 .f32) : IVec S_ 1 :=
  let main_v0 : FVec F S4096 .f32 := Host.absf main_arg5
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S4x8x2048x4096 : Shape := ⟨4, ![4, 8, 2048, 4096]⟩
abbrev S4x8x2048 : Shape := ⟨3, ![4, 8, 2048]⟩
abbrev S4096 : Shape := ⟨1, ![4096]⟩
abbrev S8x2048x4096 : Shape := ⟨3, ![8, 2048, 4096]⟩
abbrev S1x4096 : Shape := ⟨2, ![1, 4096]⟩
abbrev S8x2048 : Shape := ⟨2, ![8, 2048]⟩
abbrev S4x8x256 : Shape := ⟨3, ![4, 8, 256]⟩
abbrev S4x1x256x4096 : Shape := ⟨4, ![4, 1, 256, 4096]⟩
abbrev S1x256x4096 : Shape := ⟨3, ![1, 256, 4096]⟩
abbrev S8x256 : Shape := ⟨2, ![8, 256]⟩
abbrev S64x4096 : Shape := ⟨2, ![64, 4096]⟩
abbrev S64x128 : Shape := ⟨2, ![64, 128]⟩
abbrev S8x128 : Shape := ⟨2, ![8, 128]⟩
abbrev S1x8x128 : Shape := ⟨3, ![1, 8, 128]⟩
abbrev S128 : Shape := ⟨1, ![128]⟩
abbrev S1x128 : Shape := ⟨2, ![1, 128]⟩
abbrev S64x256 : Shape := ⟨2, ![64, 256]⟩
abbrev S4x1x64x256 : Shape := ⟨4, ![4, 1, 64, 256]⟩
abbrev S4x64x256 : Shape := ⟨3, ![4, 64, 256]⟩
abbrev S256x256 : Shape := ⟨2, ![256, 256]⟩
abbrev S1x256 : Shape := ⟨2, ![1, 256]⟩
abbrev S64 : Shape := ⟨1, ![64]⟩
abbrev S64x1 : Shape := ⟨2, ![64, 1]⟩
abbrev S1x64x128 : Shape := ⟨3, ![1, 64, 128]⟩

abbrev nBuf : Space → Nat
  | .hbm => 12
  | .vmem => 17
  | .smem => 0
  | _ => 0

abbrev bufTy : (tb : Table) → Fin (tcTables nBuf tb) → BufTy
  | .hbm, ⟨0, _⟩ => ⟨S4x8x2048x4096, .fp8e4m3⟩
  | .hbm, ⟨1, _⟩ => ⟨S4x8x2048, .f32⟩
  | .hbm, ⟨2, _⟩ => ⟨S4096, .f32⟩
  | .hbm, ⟨3, _⟩ => ⟨S4096, .f32⟩
  | .hbm, ⟨4, _⟩ => ⟨S8x2048x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8x2048x4096, .bf16⟩
  | .hbm, ⟨10, _⟩ => ⟨S8x2048x4096, .fp8e4m3⟩
  | .hbm, ⟨11, _⟩ => ⟨S8x2048, .f32⟩
  | .local _ .vmem, ⟨0, _⟩ => ⟨S4x8x256, .f32⟩
  | .local _ .vmem, ⟨1, _⟩ => ⟨S4x8x256, .f32⟩
  | .local _ .vmem, ⟨2, _⟩ => ⟨S4x1x256x4096, .fp8e4m3⟩
  | .local _ .vmem, ⟨3, _⟩ => ⟨S4x1x256x4096, .fp8e4m3⟩
  | .local _ .vmem, ⟨4, _⟩ => ⟨S1x256x4096, .bf16⟩
  | .local _ .vmem, ⟨5, _⟩ => ⟨S1x256x4096, .bf16⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .fp8e4m3⟩
  | .local _ .vmem, ⟨12, _⟩ => ⟨S1x256x4096, .fp8e4m3⟩
  | .local _ .vmem, ⟨13, _⟩ => ⟨S8x256, .f32⟩
  | .local _ .vmem, ⟨14, _⟩ => ⟨S8x256, .f32⟩
  | .local _ .vmem, ⟨15, _⟩ => ⟨S64x4096, .f32⟩
  | .local _ .vmem, ⟨16, _⟩ => ⟨S64x4096, .f32⟩
  | _, _ => ⟨S4x8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x8x2048x4096 : Shape := ⟨4, ![4, 8, 2048, 4096]⟩
abbrev S4x8x2048 : Shape := ⟨3, ![4, 8, 2048]⟩
abbrev S4096 : Shape := ⟨1, ![4096]⟩
abbrev S8x2048x4096 : Shape := ⟨3, ![8, 2048, 4096]⟩
abbrev S8x2048 : Shape := ⟨2, ![8, 2048]⟩
abbrev S1x8x2048x4096 : Shape := ⟨4, ![1, 8, 2048, 4096]⟩
abbrev S1x8x2048 : Shape := ⟨3, ![1, 8, 2048]⟩
abbrev S8x2048x1 : Shape := ⟨3, ![8, 2048, 1]⟩
abbrev S1x1x4096 : Shape := ⟨3, ![1, 1, 4096]⟩
abbrev S1x1x256 : Shape := ⟨3, ![1, 1, 256]⟩
abbrev S8x2048x256 : Shape := ⟨3, ![8, 2048, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x8x2048x4096, .fp8e4m3⟩
  | .hbm, ⟨1, _⟩ => ⟨S4x8x2048, .f32⟩
  | .hbm, ⟨2, _⟩ => ⟨S4096, .f32⟩
  | .hbm, ⟨3, _⟩ => ⟨S4096, .f32⟩
  | .hbm, ⟨4, _⟩ => ⟨S8x2048x4096, .bf16⟩
  | .hbm, ⟨5, _⟩ => ⟨S4096, .f32⟩
  | .hbm, ⟨6, _⟩ => ⟨S8x2048x4096, .bf16⟩
  | .hbm, ⟨7, _⟩ => ⟨S8x2048x4096, .fp8e4m3⟩
  | .hbm, ⟨8, _⟩ => ⟨S8x2048, .f32⟩
  | .local _ .vmem, ⟨0, _⟩ => ⟨S4x8x2048x4096, .fp8e4m3⟩
  | .local _ .vmem, ⟨1, _⟩ => ⟨S4x8x2048, .f32⟩
  | .local _ .vmem, ⟨2, _⟩ => ⟨S4096, .f32⟩
  | .local _ .vmem, ⟨3, _⟩ => ⟨S4096, .f32⟩
  | .local _ .vmem, ⟨4, _⟩ => ⟨S8x2048x4096, .bf16⟩
  | .local _ .vmem, ⟨5, _⟩ => ⟨S4096, .f32⟩
  | .local _ .vmem, ⟨6, _⟩ => ⟨S8x2048x4096, .bf16⟩
  | .local _ .vmem, ⟨7, _⟩ => ⟨S8x2048x4096, .fp8e4m3⟩
  | .local _ .vmem, ⟨8, _⟩ => ⟨S8x2048, .f32⟩
  | _, _ => ⟨S4x8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Vocab.lean ====
/- What one grid point of the kernel computes, written once for every tile of 64 tokens and every chunk of the
   feature axis: the same operations the printed body performs, with the tile's first row `r0` and the chunk's
   number `c` as parameters. `Bridge.lean` shows that the stores the run of the body finds are these. -/
module

public import proofs.«01_k».proof.Proof.Gen.KernelIdeal.Skeleton
public import Idealize.ShloMosaic.Lib.Pipeline.FrameBody

@[expose] public section

set_option maxRecDepth 16384

noncomputable section

namespace Cert.KernelIdeal.Blk

open Cert.KernelIdeal Cert.KernelIdeal.Gen Idealize.ShloMosaic Idealize.SL.Sem

variable {F : FTy → Type} [FloatOps F]

/-- How the body reads its input blocks (`l0` … `l5`) and its two scratch buffers (`s0`, `s1`: a read after a list of
    stores). -/
structure Rds (F : FTy → Type) [FloatOps F] where
  l0 : (r : Rect S4x8x256) → Vec F r.shape .f32
  l1 : (r : Rect S4x1x256x4096) → Vec F r.shape .fp8e4m3
  l2 : (r : Rect S1x256x4096) → Vec F r.shape .bf16
  l3 : (r : Rect S1x4096) → Vec F r.shape .f32
  l4 : (r : Rect S1x4096) → Vec F r.shape .f32
  l5 : (r : Rect S1x4096) → Vec F r.shape .f32
  s0 : List (View.Piece (Elt F) S64x4096 .f32) → (r : Rect S64x4096) → Vec F r.shape .f32
  s1 : List (View.Piece (Elt F) S64x4096 .f32) → (r : Rect S64x4096) → Vec F r.shape .f32

theorem inb0 (p : Fin 4) (h : Fin 2) : ∀ a, (![p.val, 0, 128 * h.val] : Fin 3 → ℕ) a + S1x8x128.size a ≤ S4x8x256.size a := by
  revert p h; decide
theorem inb1 (j : Fin 4) (c : Fin 16) : ∀ a, (![0, 0, 64 * j.val, 256 * c.val] : Fin 4 → ℕ) a + S4x1x64x256.size a ≤ S4x1x256x4096.size a := by
  revert j c; decide
theorem inb2 (j : Fin 4) (c : Fin 32) : ∀ a, (![0, 64 * j.val, 128 * c.val] : Fin 3 → ℕ) a + S1x64x128.size a ≤ S1x256x4096.size a := by
  revert j c; decide
theorem inb3 (c : Fin 16) : ∀ a, (![0, 256 * c.val] : Fin 2 → ℕ) a + S1x256.size a ≤ S1x4096.size a := by
  revert c; decide
theorem inb4 (c : Fin 32) : ∀ a, (![0, 128 * c.val] : Fin 2 → ℕ) a + S1x128.size a ≤ S1x4096.size a := by
  revert c; decide
theorem inbT (c : Fin 16) : ∀ a, (![0, 256 * c.val] : Fin 2 → ℕ) a + S64x256.size a ≤ S64x4096.size a := by
  revert c; decide
theorem inbW (c : Fin 32) : ∀ a, (![0, 128 * c.val] : Fin 2 → ℕ) a + S64x128.size a ≤ S64x4096.size a := by
  revert c; decide
theorem inb8 (h : Fin 2) : ∀ a, (![0, 128 * h.val] : Fin 2 → ℕ) a + S8x128.size a ≤ S8x256.size a := by
  revert h; decide

/-- Each row's number, and each lane's. -/
def rows : IVec S64x128 32 := iota .tc S64x128 32 [0] iota_S64x128_d0_w32
def lanes : IVec S64x128 32 := iota .tc S64x128 32 [1] iota_S64x128_d1_w32

/-- The mask of the diagonal that starts at lane `o`. -/
def diagM (o : BitVec 32) : IVec S64x128 1 := cmpi .eq lanes (addi rows (broadcast S64x128 o))

def zero64 : FVec F S64x128 .f32 := broadcast S64x128 (Scalar.ofBits .f32 0x00000000#32)

/-- Shard `p`'s scales of this batch element at 128 tokens, as one row. -/
def srow (i : grid0.Coords) (v : Vec F S1x8x128 .f32) : FVec F S1x128 .f32 :=
  shapeCast S1x128 (multiReduction .add [0] S128 (select (k0_pay1 i) (shapeCast S8x128 v shapeCasts_S1x8x128_S8x128)
    (broadcast S8x128 (Scalar.ofBits .f32 0x00000000#32))) 0x00000000#32 reduces_S8x128_S128 (.inl rfl) rfl) shapeCasts_S128_S1x128

def rot (v : FVec F S1x128 .f32) : FVec F S1x128 .f32 := dynamicRotate 1 64#32 none v rotates_S1x128_d1

/-- One row laid along a diagonal of a 64×128 slab. -/
def lay (o : BitVec 32) (v : FVec F S1x128 .f32) (s : FVec F S64x128 .f32) : FVec F S64x128 .f32 :=
  select (diagM o) (broadcastTo S64x128 (shapeCast S1x128 v shapeCasts_S1x128_S1x128) broadcasts_S1x128_S64x128) s

def smat4 (a b c d : FVec F S1x128 .f32) : FVec F S64x256 .bf16 :=
  truncf .bf16 (concatenate S64x256 1 [⟨S64x128, lay 64#32 b (lay 0#32 a zero64)⟩, ⟨S64x128, lay 64#32 d (lay 0#32 c zero64)⟩]
    concatenates_S64x128_S64x128_S64x256_d1) bitsLt_bf16_f32

variable (i : grid0.Coords) (R : Rds F)

def row0 (p : Fin 4) (h : Fin 2) : FVec F S1x128 .f32 := srow i (R.l0 (Rect.unit ![p.val, 0, 128 * h.val] S1x8x128.size (inb0 p h)))

/-- The matrix of the four shards' scales for a tile: four diagonals of 64. A tile in the first half of its 128 tokens
    rotates the odd shards' rows, one in the second half the even shards'. -/
def smatE (h : Fin 2) : FVec F S64x256 .bf16 := smat4 (row0 i R 0 h) (rot (row0 i R 1 h)) (row0 i R 2 h) (rot (row0 i R 3 h))
def smatO (h : Fin 2) : FVec F S64x256 .bf16 := smat4 (rot (row0 i R 0 h)) (row0 i R 1 h) (rot (row0 i R 2 h)) (row0 i R 3 h)

/-- One chunk of 256 features of the dequantised sum with its bias. -/
def tOf (sm : FVec F S64x256 .bf16) (codes : Vec F S4x1x64x256 .fp8e4m3) (bias : Vec F S1x256 .f32) : FVec F S64x256 .f32 :=
  addf (matmul dot_S64x256_S256x256_S64x256_1_0_0_1_n_n none sm
      (shapeCast S256x256 (shapeCast S4x64x256 codes shapeCasts_S4x1x64x256_S4x64x256) shapeCasts_S4x64x256_S256x256)
      (constant S64x256 .f32 0x00000000#32))
    (broadcastTo S64x256 (shapeCast S1x256 bias shapeCasts_S1x256_S1x256) broadcasts_S1x256_S64x256)

def tC (sm : FVec F S64x256 .bf16) (j : Fin 4) (c : Fin 16) : FVec F S64x256 .f32 :=
  tOf sm (R.l1 (Rect.unit ![0, 0, 64 * j.val, 256 * c.val] S4x1x64x256.size (inb1 j c)))
    (R.l3 (Rect.unit ![0, 256 * c.val] S1x256.size (inb3 c)))

def accT (acc : FVec F S64x128 .f32) (t : FVec F S64x256 .f32) : FVec F S64x128 .f32 :=
  addf (addf acc (mulf (extractStridedSlice S64x128 ![0, 0] t slices_S64x256_o0_0_S64x128) (extractStridedSlice S64x128 ![0, 0] t slices_S64x256_o0_0_S64x128)))
    (mulf (extractStridedSlice S64x128 ![0, 128] t slices_S64x256_o0_128_S64x128) (extractStridedSlice S64x128 ![0, 128] t slices_S64x256_o0_128_S64x128))

def l16 : List (Fin 16) := [0, 1, 2, 3, 4, 5, 6, 7, 8, 9, 10, 11, 12, 13, 14, 15]
def l16r : List (Fin 16) := [15, 14, 13, 12, 11, 10, 9, 8, 7, 6, 5, 4, 3, 2, 1, 0]
def l32 : List (Fin 32) := [0, 1, 2, 3, 4, 5, 6, 7, 8, 9, 10, 11, 12, 13, 14, 15, 16, 17, 18, 19, 20, 21, 22, 23, 24, 25, 26, 27, 28, 29, 30, 31]
def l32r : List (Fin 32) := [31, 30, 29, 28, 27, 26, 25, 24, 23, 22, 21, 20, 19, 18, 17, 16, 15, 14, 13, 12, 11, 10, 9, 8, 7, 6, 5, 4, 3, 2, 1, 0]

/-- The reciprocal root of a row's mean square, from the 128 partial sums of its squares. -/
def rsOf (acc : FVec F S64x128 .f32) : FVec F S64x1 .f32 :=
  rsqrt (addf (mulf (shapeCast S64x1 (multiReduction .add [1] S64 acc 0x00000000#32 reduces_S64x128_S64 (.inl rfl) rfl) shapeCasts_S64_S64x1)
    (broadcast S64x1 (Scalar.ofBits .f32 0x39800000#32))) (broadcast S64x1 (Scalar.ofBits .f32 0x358637BD#32)))

def rs1 (sm : FVec F S64x256 .bf16) (j : Fin 4) : FVec F S64x128 .f32 :=
  broadcastTo S64x128 (shapeCast S64x1 (rsOf (l16.foldl (fun a c => accT a (tC R sm j c)) zero64)) shapeCasts_S64x1_S64x1) broadcasts_S64x1_S64x128

/-- The first scratch buffer's stores in a tile, last first. -/
def tPs (sm : FVec F S64x256 .bf16) (j : Fin 4) (old : List (View.Piece (Elt F) S64x4096 .f32)) : List (View.Piece (Elt F) S64x4096 .f32) :=
  l16r.foldr (fun c L => ⟨Rect.unit ![0, 256 * c.val] S64x256.size (inbT c), shapeCast S64x256 (tC R sm j c) shapeCasts_S64x256_S64x256⟩ :: L) old

/-- One chunk of 128 features of the new residual. -/
def nrOf (x : Vec F S1x64x128 .bf16) (t rs : FVec F S64x128 .f32) (pg : Vec F S1x128 .f32) : FVec F S64x128 .bf16 :=
  truncf .bf16 (addf (extf .f32 (shapeCast S64x128 x shapeCasts_S1x64x128_S64x128) bitsLt_bf16_f32)
    (mulf (mulf t rs) (broadcastTo S64x128 (shapeCast S1x128 pg shapeCasts_S1x128_S1x128) broadcasts_S1x128_S64x128))) bitsLt_bf16_f32

/-- What a tile reads: its scale matrix, its number, and the first scratch's stores so far. -/
def nrC (sm : FVec F S64x256 .bf16) (j : Fin 4) (TP : List (View.Piece (Elt F) S64x4096 .f32)) (c : Fin 32) : FVec F S64x128 .bf16 :=
  nrOf (R.l2 (Rect.unit ![0, 64 * j.val, 128 * c.val] S1x64x128.size (inb2 j c)))
    (R.s0 TP (Rect.unit ![0, 128 * c.val] S64x128.size (inbW c))) (rs1 R sm j)
    (R.l4 (Rect.unit ![0, 128 * c.val] S1x128.size (inb4 c)))

def rC (sm : FVec F S64x256 .bf16) (j : Fin 4) (TP : List (View.Piece (Elt F) S64x4096 .f32)) (c : Fin 32) : FVec F S64x128 .f32 :=
  extf .f32 (nrC R sm j TP c) bitsLt_bf16_f32

def wOf (r : FVec F S64x128 .f32) (ng : Vec F S1x128 .f32) : FVec F S64x128 .f32 :=
  mulf r (broadcastTo S64x128 (shapeCast S1x128 ng shapeCasts_S1x128_S1x128) broadcasts_S1x128_S64x128)

def wC (sm : FVec F S64x256 .bf16) (j : Fin 4) (TP : List (View.Piece (Elt F) S64x4096 .f32)) (c : Fin 32) : FVec F S64x128 .f32 :=
  wOf (rC R sm j TP c) (R.l5 (Rect.unit ![0, 128 * c.val] S1x128.size (inb4 c)))

/-- The second scratch buffer's stores in a tile, last first. -/
def wPs (sm : FVec F S64x256 .bf16) (j : Fin 4) (TP old : List (View.Piece (Elt F) S64x4096 .f32)) : List (View.Piece (Elt F) S64x4096 .f32) :=
  l32r.foldr (fun c L => ⟨Rect.unit ![0, 128 * c.val] S64x128.size (inbW c), shapeCast S64x128 (wC R sm j TP c) shapeCasts_S64x128_S64x128⟩ :: L) old

def nrPs (sm : FVec F S64x256 .bf16) (j : Fin 4) (TP : List (View.Piece (Elt F) S64x4096 .f32)) (old : List (View.Piece (Elt F) S1x256x4096 .bf16)) :
    List (View.Piece (Elt F) S1x256x4096 .bf16) :=
  l32r.foldr (fun c L => ⟨Rect.unit ![0, 64 * j.val, 128 * c.val] S1x64x128.size (inb2 j c), shapeCast S1x64x128 (nrC R sm j TP c) shapeCasts_S64x128_S1x64x128⟩ :: L) old

def rs2 (sm : FVec F S64x256 .bf16) (j : Fin 4) (TP : List (View.Piece (Elt F) S64x4096 .f32)) : FVec F S64x1 .f32 :=
  rsOf (l32.foldl (fun a c => addf a (mulf (rC R sm j TP c) (rC R sm j TP c))) zero64)

/-- A row's largest |r·gain| by its normalisation. -/
def aOf (am : FVec F S64x128 .f32) (rs : FVec F S64x1 .f32) : FVec F S64x1 .f32 :=
  mulf (shapeCast S64x1 (multiReduction .maximumf [1] S64 am 0xFF800000#32 reduces_S64x128_S64 (.inl rfl) rfl) shapeCasts_S64_S64x1) rs

/-- The same over 448, in every lane. -/
def vOf (a : FVec F S64x1 .f32) : FVec F S64x128 .f32 :=
  mulf (broadcastTo S64x128 (shapeCast S64x1 a shapeCasts_S64x1_S64x1) broadcasts_S64x1_S64x128) (broadcast S64x128 (Scalar.ofBits .f32 0x3B124925#32))

def vC (sm : FVec F S64x256 .bf16) (j : Fin 4) (TP : List (View.Piece (Elt F) S64x4096 .f32)) : FVec F S64x128 .f32 :=
  vOf (aOf (l32.foldl (fun a c => maximumf a (absf (wC R sm j TP c))) zero64) (rs2 R sm j TP))

/-- One step of the ladder that finds the exponent field of `v`. -/
def step (v : FVec F S64x128 .f32) (f : IVec S64x128 32) (b : BitVec 32) : IVec S64x128 32 :=
  select (cmpf .oge v (bitcastToFloat .f32 (shli (addi f (broadcast S64x128 b)) (broadcast S64x128 23#32)))) (addi f (broadcast S64x128 b)) f

def field (v : FVec F S64x128 .f32) : IVec S64x128 32 :=
  [128#32, 64#32, 32#32, 16#32, 8#32, 4#32, 2#32, 1#32].foldl (step v) (broadcast S64x128 0#32)

def eOf (f : IVec S64x128 32) : IVec S64x128 32 :=
  select (ori (cmpi .eq f (broadcast S64x128 0#32)) (cmpi .eq f (broadcast S64x128 255#32))) (broadcast S64x128 0#32) (subi f (broadcast S64x128 126#32))

def pow2 (e : IVec S64x128 32) : FVec F S64x128 .f32 :=
  bitcastToFloat .f32 (shli (addi e (broadcast S64x128 127#32)) (broadcast S64x128 23#32))

def mulC (rs : FVec F S64x1 .f32) (e : IVec S64x128 32) : FVec F S64x128 .f32 :=
  mulf (broadcastTo S64x128 rs broadcasts_S64x1_S64x128) (pow2 (subi (broadcast S64x128 0#32) e))

/-- One chunk of 128 features of the codes. -/
def codeOf (w mul : FVec F S64x128 .f32) : FVec F S64x128 .fp8e4m3 :=
  truncf .fp8e4m3 (minimumf (broadcast S64x128 (Scalar.ofBits .f32 0x43E00000#32)) (maximumf (broadcast S64x128 (Scalar.ofBits .f32 0xC3E00000#32)) (mulf w mul))) bitsLt_fp8e4m3_f32

def eC (sm : FVec F S64x256 .bf16) (j : Fin 4) (TP : List (View.Piece (Elt F) S64x4096 .f32)) : IVec S64x128 32 := eOf (field (vC R sm j TP))

def codePs (sm : FVec F S64x256 .bf16) (j : Fin 4) (TP WP : List (View.Piece (Elt F) S64x4096 .f32)) (old : List (View.Piece (Elt F) S1x256x4096 .fp8e4m3)) :
    List (View.Piece (Elt F) S1x256x4096 .fp8e4m3) :=
  l32r.foldr (fun c L => ⟨Rect.unit ![0, 64 * j.val, 128 * c.val] S1x64x128.size (inb2 j c),
    shapeCast S1x64x128 (codeOf (R.s1 WP (Rect.unit ![0, 128 * c.val] S64x128.size (inbW c))) (mulC (rs2 R sm j TP) (eC R sm j TP))) shapeCasts_S64x128_S1x64x128⟩ :: L) old

/-- A tile's scales as one row, at the 64 lanes that start at `o`. -/
def yrow (o : BitVec 32) (e : IVec S64x128 32) : FVec F S1x128 .f32 :=
  shapeCast S1x128 (multiReduction .add [0] S128 (select (diagM o) (pow2 e) (zero64 (F := F))) 0x00000000#32 reduces_S64x128_S128 (.inl rfl) rfl) shapeCasts_S128_S1x128

/-- The scales' block at 128 tokens: this batch element's row from two tiles, the other rows as they were. -/
def ysOf (a b : IVec S64x128 32) (old : Vec F S8x128 .f32) : FVec F S8x128 .f32 :=
  select (k0_pay1 i) (broadcastTo S8x128 (shapeCast S1x128 (addf (yrow 0#32 a) (yrow 64#32 b)) shapeCasts_S1x128_S1x128) broadcasts_S1x128_S8x128)
    (shapeCast S8x128 old shapeCasts_S8x128_S8x128)

/-! The whole grid point. -/

def TP0 := tPs R (smatE i R 0) 0 []
def TP1 := tPs R (smatO i R 0) 1 (TP0 i R)
def TP2 := tPs R (smatE i R 1) 2 (TP1 i R)
def TP3 := tPs R (smatO i R 1) 3 (TP2 i R)
def WP0 := wPs R (smatE i R 0) 0 (TP0 i R) []
def WP1 := wPs R (smatO i R 0) 1 (TP1 i R) (WP0 i R)
def WP2 := wPs R (smatE i R 1) 2 (TP2 i R) (WP1 i R)
def WP3 := wPs R (smatO i R 1) 3 (TP3 i R) (WP2 i R)
def P6 := nrPs R (smatO i R 1) 3 (TP3 i R) (nrPs R (smatE i R 1) 2 (TP2 i R) (nrPs R (smatO i R 0) 1 (TP1 i R) (nrPs R (smatE i R 0) 0 (TP0 i R) [])))
def P7 := codePs R (smatO i R 1) 3 (TP3 i R) (WP3 i R) (codePs R (smatE i R 1) 2 (TP2 i R) (WP2 i R)
  (codePs R (smatO i R 0) 1 (TP1 i R) (WP1 i R) (codePs R (smatE i R 0) 0 (TP0 i R) (WP0 i R) [])))
def e0 := eC R (smatE i R 0) 0 (TP0 i R)
def e1 := eC R (smatO i R 0) 1 (TP1 i R)
def e2 := eC R (smatE i R 1) 2 (TP2 i R)
def e3 := eC R (smatO i R 1) 3 (TP3 i R)

end Cert.KernelIdeal.Blk

end
-- ==== Proof.Bridge.lean ====
/- The stores that the run of the body finds, in either case of the body's branch, are the uniform stores of
   `Vocab.lean`; and what they leave in each output's buffer. -/
module

public import proofs.«01_k».proof.Proof.Gen.KernelIdeal.Frame
public import proofs.«01_k».proof.Proof.Vocab

@[expose] public section

set_option maxRecDepth 16384

noncomputable section

namespace Cert.KernelIdeal.Blk

open Cert.KernelIdeal Cert.KernelIdeal.Gen Idealize.ShloMosaic Idealize.SL.Sem

variable {F : FTy → Type} [FloatOps F]

/-- The two halves of the scales' block. -/
abbrev hL : Rect S8x256 := Rect.unit ![0, 0] S8x128.size inb_S8x256_S8x128_0_0
abbrev hR : Rect S8x256 := Rect.unit ![0, 128] S8x128.size inb_S8x256_S8x128_0_128

/-- The reads as the run states them: through the staging buffers. -/
def rdM (arg2 : Memref sig .tc .vmem S4x8x256 .f32) (harg2 : arg2.IsWhole) (arg3 : Memref sig .tc .vmem S4x1x256x4096 .fp8e4m3) (harg3 : arg3.IsWhole) (arg4 : Memref sig .tc .vmem S1x256x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole)
    (arg11 : Memref sig .tc .vmem S64x4096 .f32) (arg12 : Memref sig .tc .vmem S64x4096 .f32)
    (x0 : Vec F S4x8x256 .f32) (x1 : Vec F S4x1x256x4096 .fp8e4m3) (x2 : Vec F S1x256x4096 .bf16) (x3 : Vec F S1x4096 .f32) (x4 : Vec F S1x4096 .f32) (x5 : Vec F S1x4096 .f32) : Rds F where
  l0 r := View.readAt (Elt F) arg2.view r.toLoadRect (harg2.unread x0)
  l1 r := View.readAt (Elt F) arg3.view r.toLoadRect (harg3.unread x1)
  l2 r := View.readAt (Elt F) arg4.view r.toLoadRect (harg4.unread x2)
  l3 r := View.readAt (Elt F) arg5.view r.toLoadRect (harg5.unread x3)
  l4 r := View.readAt (Elt F) arg6.view r.toLoadRect (harg6.unread x4)
  l5 r := View.readAt (Elt F) arg7.view r.toLoadRect (harg7.unread x5)
  s0 L r := arg11.view.readCov L r.toLoadRect
  s1 L r := arg12.view.readCov L r.toLoadRect

/-- The reads of the blocks themselves. -/
def rdV (x0 : Vec F S4x8x256 .f32) (x1 : Vec F S4x1x256x4096 .fp8e4m3) (x2 : Vec F S1x256x4096 .bf16) (x3 : Vec F S1x4096 .f32) (x4 : Vec F S1x4096 .f32) (x5 : Vec F S1x4096 .f32) : Rds F where
  l0 r := View.ld x0 r
  l1 r := View.ld x1 r
  l2 r := View.ld x2 r
  l3 r := View.ld x3 r
  l4 r := View.ld x4 r
  l5 r := View.ld x5 r
  s0 L r := View.ld (View.canon L) r
  s1 L r := View.ld (View.canon L) r

variable (c : Dev nD) (i : grid0.Coords) (arg2 : Memref sig .tc .vmem S4x8x256 .f32) (harg2 : arg2.IsWhole) (arg3 : Memref sig .tc .vmem S4x1x256x4096 .fp8e4m3) (harg3 : arg3.IsWhole) (arg4 : Memref sig .tc .vmem S1x256x4096 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x256x4096 .bf16) (harg8 : arg8.IsWhole) (arg9 : Memref sig .tc .vmem S1x256x4096 .fp8e4m3) (harg9 : arg9.IsWhole) (arg10 : Memref sig .tc .vmem S8x256 .f32) (harg10 : arg10.IsWhole) (arg11 : Memref sig .tc .vmem S64x4096 .f32) (harg11 : arg11.IsWhole) (arg12 : Memref sig .tc .vmem S64x4096 .f32) (harg12 : arg12.IsWhole)
    (x0 : Vec F S4x8x256 .f32) (x1 : Vec F S4x1x256x4096 .fp8e4m3) (x2 : Vec F S1x256x4096 .bf16) (x3 : Vec F S1x4096 .f32) (x4 : Vec F S1x4096 .f32) (x5 : Vec F S1x4096 .f32)

omit c i arg8 harg8 arg9 harg9 arg10 harg10 harg11 harg12 in
theorem rdM_eq : (rdM arg2 harg2 arg3 harg3 arg4 harg4 arg5 harg5 arg6 harg6 arg7 harg7 arg11 arg12 x0 x1 x2 x3 x4 x5) = rdV x0 x1 x2 x3 x4 x5 := by
  simp only [rdM, rdV, View.readAt_eq_ld, Memref.IsWhole.read_unread, View.readCov_eq_canon']

/-- The scales' stores over the block `z`: both halves of the 256 tokens, from the contents `o0`, `o1` they find. -/
def P8 (R : Rds F) (o0 o1 : Vec F S8x128 .f32) (old : List (View.Piece (Elt F) S8x256 .f32)) : List (View.Piece (Elt F) S8x256 .f32) :=
  ⟨hR, ysOf i (e2 i R) (e3 i R) o1⟩ ::
  ⟨hL, ysOf i (e0 i R) (e1 i R) o0⟩ :: old

def Z8 : List (View.Piece (Elt F) S8x256 .f32) := [⟨Rect.unit ![0, 0] S8x256.size inb_S8x256_S8x256_0_0, k0_pay2⟩]

/-- The scales' stores at a point of the first batch element, which first zeroes the block; -/
def P8A (R : Rds F) : List (View.Piece (Elt F) S8x256 .f32) :=
  P8 i R (View.ld (View.canon Z8) hL)
    (View.ld (View.canon (⟨hL, ysOf i (e0 i R) (e1 i R) (View.ld (View.canon Z8) hL)⟩ :: Z8))
      hR) Z8

/-- and at any other, over what the point before left. -/
def P8B (R : Rds F) (xo : Vec F S8x256 .f32) : List (View.Piece (Elt F) S8x256 .f32) :=
  P8 i R (View.ld xo hL) (View.ld xo hR) []

section
variable (hc0 : cond0_0 i)

theorem runA_6 : (kernelRun0_A c i arg2 harg2 arg3 harg3 arg4 harg4 arg5 harg5 arg6 harg6 arg7 harg7 arg8 harg8 arg9 harg9 arg10 harg10 arg11 harg11 arg12 harg12 hc0 x0 x1 x2 x3 x4 x5).1 = P6 i (rdM arg2 harg2 arg3 harg3 arg4 harg4 arg5 harg5 arg6 harg6 arg7 harg7 arg11 arg12 x0 x1 x2 x3 x4 x5) := by sl_kernel_rfl

theorem outA_6 : out0_A_6 c i arg2 harg2 arg3 harg3 arg4 harg4 arg5 harg5 arg6 harg6 arg7 harg7 arg8 harg8 arg9 harg9 arg10 harg10 arg11 harg11 arg12 harg12 hc0 x0 x1 x2 x3 x4 x5 = View.canon (P6 i (rdV x0 x1 x2 x3 x4 x5)) := by
  unfold out0_A_6
  rw [View.read_writes_junk_eq_canon, runA_6, rdM_eq]

theorem runA_7 : (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 = P7 i (rdM arg2 harg2 arg3 harg3 arg4 harg4 arg5 harg5 arg6 harg6 arg7 harg7 arg11 arg12 x0 x1 x2 x3 x4 x5) := by sl_kernel_rfl

theorem outA_7 : out0_A_7 c i arg2 harg2 arg3 harg3 arg4 harg4 arg5 harg5 arg6 harg6 arg7 harg7 arg8 harg8 arg9 harg9 arg10 harg10 arg11 harg11 arg12 harg12 hc0 x0 x1 x2 x3 x4 x5 = View.canon (P7 i (rdV x0 x1 x2 x3 x4 x5)) := by
  unfold out0_A_7
  rw [View.read_writes_junk_eq_canon, runA_7, rdM_eq]

theorem runA_8 : (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 = P8 i (rdM arg2 harg2 arg3 harg3 arg4 harg4 arg5 harg5 arg6 harg6 arg7 harg7 arg11 arg12 x0 x1 x2 x3 x4 x5) (arg10.view.readCov Z8 hL.toLoadRect) (arg10.view.readCov (⟨hL, ysOf i (e0 i (rdM arg2 harg2 arg3 harg3 arg4 harg4 arg5 harg5 arg6 harg6 arg7 harg7 arg11 arg12 x0 x1 x2 x3 x4 x5)) (e1 i (rdM arg2 harg2 arg3 harg3 arg4 harg4 arg5 harg5 arg6 harg6 arg7 harg7 arg11 arg12 x0 x1 x2 x3 x4 x5)) (arg10.view.readCov Z8 hL.toLoadRect)⟩ :: Z8) hR.toLoadRect) Z8 := by sl_kernel_rfl

theorem outA_8 : out0_A_8 c i arg2 harg2 arg3 harg3 arg4 harg4 arg5 harg5 arg6 harg6 arg7 harg7 arg8 harg8 arg9 harg9 arg10 harg10 arg11 harg11 arg12 harg12 hc0 x0 x1 x2 x3 x4 x5 = View.canon (P8A i (rdV x0 x1 x2 x3 x4 x5)) := by
  unfold out0_A_8
  rw [View.read_writes_junk_eq_canon, runA_8, rdM_eq]
  rw [View.readCov_eq_canon', View.readCov_eq_canon']; rfl

end

section
variable (hc0 : ¬cond0_0 i) (xo8 : Vec F S8x256 .f32)

theorem runB_6 : (kernelRun0_B c i arg2 harg2 arg3 harg3 arg4 harg4 arg5 harg5 arg6 harg6 arg7 harg7 arg8 harg8 arg9 harg9 arg10 harg10 arg11 harg11 arg12 harg12 hc0 x0 x1 x2 x3 x4 x5 xo8).1 = P6 i (rdM arg2 harg2 arg3 harg3 arg4 harg4 arg5 harg5 arg6 harg6 arg7 harg7 arg11 arg12 x0 x1 x2 x3 x4 x5) := by sl_kernel_rfl

theorem outB_6 : out0_B_6 c i arg2 harg2 arg3 harg3 arg4 harg4 arg5 harg5 arg6 harg6 arg7 harg7 arg8 harg8 arg9 harg9 arg10 harg10 arg11 harg11 arg12 harg12 hc0 x0 x1 x2 x3 x4 x5 xo8 = View.canon (P6 i (rdV x0 x1 x2 x3 x4 x5)) := by
  unfold out0_B_6
  rw [View.read_writes_junk_eq_canon, runB_6, rdM_eq]

theorem runB_7 : (kernelRun0_B c i arg2 harg2 arg3 harg3 arg4 harg4 arg5 harg5 arg6 harg6 arg7 harg7 arg8 harg8 arg9 harg9 arg10 harg10 arg11 harg11 arg12 harg12 hc0 x0 x1 x2 x3 x4 x5 xo8).2.1 = P7 i (rdM arg2 harg2 arg3 harg3 arg4 harg4 arg5 harg5 arg6 harg6 arg7 harg7 arg11 arg12 x0 x1 x2 x3 x4 x5) := by sl_kernel_rfl

theorem outB_7 : out0_B_7 c i arg2 harg2 arg3 harg3 arg4 harg4 arg5 harg5 arg6 harg6 arg7 harg7 arg8 harg8 arg9 harg9 arg10 harg10 arg11 harg11 arg12 harg12 hc0 x0 x1 x2 x3 x4 x5 xo8 = View.canon (P7 i (rdV x0 x1 x2 x3 x4 x5)) := by
  unfold out0_B_7
  rw [View.read_writes_junk_eq_canon, runB_7, rdM_eq]

theorem runB_8 : (kernelRun0_B c i arg2 harg2 arg3 harg3 arg4 harg4 arg5 harg5 arg6 harg6 arg7 harg7 arg8 harg8 arg9 harg9 arg10 harg10 arg11 harg11 arg12 harg12 hc0 x0 x1 x2 x3 x4 x5 xo8).2.2.1 = P8 i (rdM arg2 harg2 arg3 harg3 arg4 harg4 arg5 harg5 arg6 harg6 arg7 harg7 arg11 arg12 x0 x1 x2 x3 x4 x5) (View.readAt (Elt F) arg10.view hL.toLoadRect (harg10.unread xo8)) (View.readAt (Elt F) arg10.view hR.toLoadRect (harg10.unread xo8)) [] := by sl_kernel_rfl

theorem outB_8 : out0_B_8 c i arg2 harg2 arg3 harg3 arg4 harg4 arg5 harg5 arg6 harg6 arg7 harg7 arg8 harg8 arg9 harg9 arg10 harg10 arg11 harg11 arg12 harg12 hc0 x0 x1 x2 x3 x4 x5 xo8 = View.canon (P8B i (rdV x0 x1 x2 x3 x4 x5) xo8) := by
  unfold out0_B_8
  rw [View.read_writes_junk_eq_canon, runB_8, rdM_eq]
  rw [View.readAt_eq_ld, View.readAt_eq_ld, harg10.read_unread]; rfl

end

end Cert.KernelIdeal.Blk

end
-- ==== Proof.Spec.lean ====
/- One token's row, as the problem states it: the dequantised sum with its bias, the two normalisations, the new
   residual, the row's power-of-two scale and its codes. -/
module

public import Idealize.ShloMosaic.PureOps.Ideal
public import Idealize.ShloMosaic.Lib.Pointwise

@[expose] public section

noncomputable section

namespace Cert.Row

open Idealize.ShloMosaic

abbrev Feat := Fin 4096 → EReal

/-- The sum of the four shards' codes by their scales, with the bias. -/
def tRow (q : Fin 4 → Feat) (s : Fin 4 → EReal) (b : Feat) : Feat :=
  fun d => q 0 d * s 0 + q 1 d * s 1 + q 2 d * s 2 + q 3 d * s 3 + b d

/-- The reciprocal root of the mean square. -/
def rs (f : Feat) : EReal :=
  Ideal.rsqrt (Ideal.div (∑ d, f d * f d) (Ideal.ofBits .f32 0x45800000#32) + Ideal.ofBits .f32 0x358637BD#32)

def norm (f g : Feat) : Feat := fun d => f d * rs f * g d

/-- The new residual. -/
def hRow (x t pg : Feat) : Feat := fun d => x d + norm t pg d

/-- The largest magnitude over 448. -/
def vRow (y : Feat) : EReal :=
  Finset.univ.fold max (Ideal.ofBits .f32 0xFF800000#32) (fun d => max (y d) (-y d)) * Ideal.ofBits .f32 0x3B124925#32

/-- The `x`-th power of two, from 2⁻¹²⁷. -/
def power (x : Fin 256) : EReal := Ideal.exp2 (((IntOp.subi (BitVec.ofNat 32 x.val) 127#32).toInt : ℝ) : EReal)

/-- The least power of two above `v`; 1 where `v` is below the least normal number. -/
def scale (v : EReal) : EReal :=
  if v < Ideal.ofBits .f32 0x00800000#32 then 1
  else Finset.univ.fold min (Ideal.ofBits .f32 0x7F800000#32)
    (fun x => if v < power x then power x else Ideal.ofBits .f32 0x7F800000#32)

def code (y s : EReal) : EReal :=
  min (Ideal.ofBits .f32 0x43E00000#32) (max (Ideal.ofBits .f32 0xC3E00000#32) (y * Ideal.div 1 s))

end Cert.Row

end
-- ==== Proof.Ladder.lean ====
/- The ladder of comparisons finds the exponent field of a finite nonnegative number, and what it makes of the field is
   the row's power-of-two scale and its reciprocal. -/
module

public import proofs.«01_k».proof.Proof.Spec

@[expose] public section

set_option maxRecDepth 16384

noncomputable section

namespace Cert.Row

open Idealize.ShloMosaic

/-- The number whose exponent field is `n` and whose fraction is zero. -/
def Q (n : ℕ) : EReal := Ideal.ofBits .f32 (BitVec.ofNat 32 (n * 8388608))

theorem bits (n : Fin 256) : ((BitVec.ofNat 32 (n.val * 8388608)).extractLsb' 31 1 == 1#1) = false
    ∧ ((BitVec.ofNat 32 (n.val * 8388608)).extractLsb' 23 8).toNat = n.val
    ∧ ((BitVec.ofNat 32 (n.val * 8388608)).extractLsb' 0 23).toNat = 0 := by
  revert n; decide +kernel

theorem Q_mid {n : ℕ} (h1 : 1 ≤ n) (h2 : n ≤ 254) : Q n = (((2 : ℝ) ^ ((n : ℤ) - 127) : ℝ) : EReal) := by
  obtain ⟨h, h', h''⟩ := bits ⟨n, by omega⟩
  simp only at h h' h''
  unfold Q
  simp only [Ideal.ofBits, Ideal.ieee]
  simp only [Nat.reduceAdd, h, h', h'']
  rw [if_neg (by norm_num; omega), if_neg (by omega)]
  congr 1
  simp only [Bool.false_eq_true, if_false, one_mul, add_zero, Nat.add_zero]
  push_cast
  rw [show (8388608 : ℝ) = (2 : ℝ) ^ (23 : ℤ) from by norm_num, ← zpow_add₀ (by norm_num : (2 : ℝ) ≠ 0)]
  congr 1
  norm_num

theorem Q_zero : Q 0 = 0 := by simp [Q, Ideal.ofBits, Ideal.ieee]
theorem Q_top : Q 255 = ⊤ := by simp [Q, Ideal.ofBits, Ideal.ieee]
theorem Q_one : Q 127 = 1 := by rw [Q_mid (by norm_num) (by norm_num)]; norm_num

theorem Q_mono {n m : ℕ} (h : n ≤ m) (hm : m ≤ 255) : Q n ≤ Q m := by
  rcases Nat.lt_or_ge 254 m with h5 | h5
  · obtain rfl : m = 255 := by omega
    rw [Q_top]; exact le_top
  rcases Nat.eq_zero_or_pos n with rfl | hn
  · rcases Nat.eq_zero_or_pos m with rfl | hm
    · exact le_rfl
    · rw [Q_zero, Q_mid hm h5, EReal.coe_nonneg]; positivity
  · rw [Q_mid hn (by omega), Q_mid (by omega) h5, EReal.coe_le_coe_iff]
    exact zpow_le_zpow_right₀ (by norm_num) (by omega)

/-- The exponent field of a number below 2¹²⁶. -/
theorem exists_field {v : EReal} (h0 : 0 ≤ v) (h1 : v < (((2 : ℝ) ^ 126 : ℝ) : EReal)) :
    ∃ k : ℕ, k ≤ 252 ∧ ∀ n : ℕ, n ≤ 255 → (Q n ≤ v ↔ n ≤ k) := by
  have h3 : ∀ m : ℕ, m ≤ 253 → v < Q m → ∃ k : ℕ, k < m ∧ ∀ n : ℕ, n ≤ 255 → (Q n ≤ v ↔ n ≤ k) := by
    intro m
    induction m with
    | zero => intro _ h; rw [Q_zero] at h; exact absurd h0 h.not_ge
    | succ m ih =>
      intro hm h
      rcases lt_or_ge v (Q m) with h' | h'
      · obtain ⟨k, hk, hk'⟩ := ih (by omega) h'
        exact ⟨k, by omega, hk'⟩
      · refine ⟨m, by omega, fun n hn => ⟨fun hq => ?_, fun hq => (Q_mono hq (by omega)).trans h'⟩⟩
        by_contra hc
        exact absurd ((Q_mono (n := m + 1) (m := n) (by omega) hn).trans hq) h.not_ge
  obtain ⟨k, hk, hk'⟩ := h3 253 le_rfl (by
    rw [Q_mid (by omega) (by omega)]
    refine h1.trans_eq ?_
    congr 1)
  exact ⟨k, by omega, hk'⟩

/-- One step of the ladder, on one lane. -/
def stepW (v : EReal) (f b : BitVec 32) : BitVec 32 :=
  if Ideal.ofBits .f32 (IntOp.shli .vector (IntOp.addi f b) 23#32) ≤ v then IntOp.addi f b else f

def fieldW (v : EReal) : BitVec 32 :=
  [128#32, 64#32, 32#32, 16#32, 8#32, 4#32, 2#32, 1#32].foldl (stepW v) 0#32

def eW (f : BitVec 32) : BitVec 32 :=
  Scalar.select (IntOp.ori (IntOp.cmpi .eq f 0#32) (IntOp.cmpi .eq f 255#32)) 0#32 (IntOp.subi f 126#32)

def pow2W (e : BitVec 32) : EReal := Ideal.ofBits .f32 (IntOp.shli .vector (IntOp.addi e 127#32) 23#32)

theorem shl (n : Fin 256) : IntOp.shli .vector (BitVec.ofNat 32 n.val) 23#32 = BitVec.ofNat 32 (n.val * 8388608) := by
  revert n; decide +kernel

theorem stepW_eq {v : EReal} {k : ℕ} (hk : ∀ n : ℕ, n ≤ 255 → (Q n ≤ v ↔ n ≤ k)) {n b : ℕ} (h : n + b ≤ 255) :
    stepW v (BitVec.ofNat 32 n) (BitVec.ofNat 32 b) = BitVec.ofNat 32 (if n + b ≤ k then n + b else n) := by
  have ha : IntOp.addi (BitVec.ofNat 32 n) (BitVec.ofNat 32 b) = BitVec.ofNat 32 (n + b) := (BitVec.ofNat_add n b).symm
  unfold stepW
  rw [ha, shl ⟨n + b, by omega⟩]
  have := hk (n + b) h
  unfold Q at this
  by_cases h' : n + b ≤ k
  · rw [if_pos (this.2 h'), if_pos h']
  · rw [if_neg (fun hh => h' (this.1 hh)), if_neg h']

theorem foldl_stepW {v : EReal} {k : ℕ} (hk : ∀ n : ℕ, n ≤ 255 → (Q n ≤ v ↔ n ≤ k)) :
    ∀ (bs : List ℕ) (n : ℕ), n + bs.sum ≤ 255 →
      (bs.map (BitVec.ofNat 32)).foldl (stepW v) (BitVec.ofNat 32 n)
        = BitVec.ofNat 32 (bs.foldl (fun n b => if n + b ≤ k then n + b else n) n)
  | [], _, _ => rfl
  | b :: bs, n, h => by
    simp only [List.sum_cons] at h
    simp only [List.map_cons, List.foldl_cons]
    rw [stepW_eq hk (by omega)]
    refine foldl_stepW hk bs _ ?_
    split <;> omega

theorem fieldW_eq {v : EReal} {k : ℕ} (hk' : k ≤ 252) (hk : ∀ n : ℕ, n ≤ 255 → (Q n ≤ v ↔ n ≤ k)) :
    fieldW v = BitVec.ofNat 32 k := by
  have h := foldl_stepW hk [128, 64, 32, 16, 8, 4, 2, 1] 0 (by decide)
  refine h.trans ?_
  congr 1
  have : ∀ k : Fin 256, [128, 64, 32, 16, 8, 4, 2, 1].foldl (fun n b => if n + b ≤ k.val then n + b else n) 0 = k.val := by
    decide +kernel
  exact this ⟨k, by omega⟩

theorem pow_pos (k : Fin 253) : (IntOp.shli .vector (IntOp.addi (eW (BitVec.ofNat 32 k.val)) 127#32) 23#32)
    = BitVec.ofNat 32 ((if k.val = 0 then 127 else k.val + 1) * 8388608) := by
  revert k; decide +kernel

theorem pow_neg (k : Fin 253) : (IntOp.shli .vector (IntOp.addi (IntOp.subi 0#32 (eW (BitVec.ofNat 32 k.val))) 127#32) 23#32)
    = BitVec.ofNat 32 ((if k.val = 0 then 127 else 253 - k.val) * 8388608) := by
  revert k; decide +kernel

theorem subToInt (x : Fin 256) : (IntOp.subi (BitVec.ofNat 32 x.val) 127#32).toInt = (x.val : ℤ) - 127 := by
  revert x; decide +kernel

theorem power_eq (x : Fin 256) : power x = (((2 : ℝ) ^ ((x.val : ℤ) - 127) : ℝ) : EReal) := by
  unfold power
  rw [subToInt, Ideal.exp2_coe]
  congr 1
  exact Real.rpow_intCast 2 _

/-- The scale of a number with exponent field `k`. -/
theorem scale_eq {v : EReal} {k : ℕ} (hk' : k ≤ 252) (hk : ∀ n : ℕ, n ≤ 255 → (Q n ≤ v ↔ n ≤ k)) :
    scale v = Q (if k = 0 then 127 else k + 1) := by
  have hlt : ∀ n : ℕ, n ≤ 255 → (v < Q n ↔ k < n) := fun n hn => by
    rw [← not_le, ← not_le]; exact not_congr (hk n hn)
  unfold scale
  rw [show Ideal.ofBits .f32 0x00800000#32 = Q 1 from rfl, show Ideal.ofBits .f32 0x7F800000#32 = Q 255 from rfl, Q_top]
  rcases Nat.eq_zero_or_pos k with rfl | hp
  · rw [if_pos ((hlt 1 (by omega)).2 (by omega)), if_pos rfl, Q_one]
  · rw [if_neg (fun h => by have := (hlt 1 (by omega)).1 h; omega), if_neg (by omega)]
    refine le_antisymm ?_ ?_
    · refine (Finset.fold_min_le _).2 (Or.inr ⟨⟨k + 1, by omega⟩, Finset.mem_univ _, ?_⟩)
      have : power ⟨k + 1, by omega⟩ = Q (k + 1) := by rw [power_eq, Q_mid (by omega) (by omega)]
      rw [this, if_pos ((hlt _ (by omega)).2 (by omega))]
    · refine (Finset.le_fold_min _).2 ⟨le_top, fun x _ => ?_⟩
      split
      · rename_i h
        rw [power_eq] at h ⊢
        have hx : k < x.val := by
          rcases Nat.eq_zero_or_pos x.val with hx0 | hx0
          · exfalso
            have h1 : Q 1 ≤ v := (hk 1 (by omega)).2 hp
            rw [Q_mid (by omega) (by omega)] at h1
            have := h1.trans_lt h
            rw [EReal.coe_lt_coe_iff, hx0] at this
            norm_num at this
          · rcases Nat.lt_or_ge 254 x.val with h5 | h5
            · omega
            · rw [← Q_mid hx0 h5] at h
              exact (hlt _ (by omega)).1 h
        rw [Q_mid (by omega) (by omega), EReal.coe_le_coe_iff]
        exact zpow_le_zpow_right₀ (by norm_num) (by push_cast; omega)
      · exact le_top

theorem div_one_Q {n : ℕ} (h1 : 1 ≤ n) (h2 : n ≤ 253) : Ideal.div 1 (Q n) = Q (254 - n) := by
  rw [Q_mid h1 (by omega), Q_mid (by omega) (by omega)]
  have : ((2 : ℝ) ^ ((n : ℤ) - 127)) ≠ 0 := by positivity
  rw [show (1 : EReal) = ((1 : ℝ) : EReal) from rfl, Ideal.div_coe this, ← EReal.coe_mul]
  congr 1
  rw [one_mul, one_div, ← zpow_neg]
  congr 1
  omega

/-- What the ladder makes of a row's `v`: its scale, and the reciprocal. -/
theorem ladder {v : EReal} (h0 : 0 ≤ v) (h1 : v < (((2 : ℝ) ^ 126 : ℝ) : EReal)) :
    pow2W (eW (fieldW v)) = scale v ∧ pow2W (IntOp.subi 0#32 (eW (fieldW v))) = Ideal.div 1 (scale v) := by
  obtain ⟨k, hk', hk⟩ := exists_field h0 h1
  rw [fieldW_eq hk' hk, scale_eq hk' hk]
  unfold pow2W
  rw [pow_pos ⟨k, by omega⟩, pow_neg ⟨k, by omega⟩]
  refine ⟨rfl, ?_⟩
  change Q (if k = 0 then 127 else 253 - k) = _
  split
  · rw [div_one_Q (by omega) (by omega)]
  · rw [div_one_Q (by omega) (by omega)]; congr 1; omega

end Cert.Row

end
-- ==== Proof.RowMath.lean ====
/- Row arithmetic: what the tiled body computes of a row is what the problem states. The sums by lanes, the largest
   magnitude taken before the normalisation, the bound that keeps the row's `v` below 2¹²⁶, and the codes. -/
module

public import proofs.«01_k».proof.Proof.Ladder

@[expose] public section

set_option maxRecDepth 16384

noncomputable section

namespace Cert.Row

open Idealize.ShloMosaic

/-! Constants. -/

theorem c4096 : Ideal.ofBits .f32 0x45800000#32 = ((4096 : ℝ) : EReal) := by
  simp [Ideal.ofBits, Ideal.ieee, -EReal.coe_mul]; norm_num
theorem cinv4096 : Ideal.ofBits .f32 0x39800000#32 = ((1 / 4096 : ℝ) : EReal) := by
  simp [Ideal.ofBits, Ideal.ieee, -EReal.coe_mul]; norm_num
theorem ceps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]
theorem cinv448 : ∃ e : ℝ, 0 < e ∧ e < 1 / 256 ∧ Ideal.ofBits .f32 0x3B124925#32 = (e : EReal) := by
  refine ⟨9586981 * 2 ^ (-32 : ℤ), by positivity, by norm_num, ?_⟩
  simp [Ideal.ofBits, Ideal.ieee, -EReal.coe_mul]
theorem cmax : ∃ e : ℝ, 0 < e ∧ e < 2 ^ 128 ∧ Ideal.ofBits .f32 0x7F7FFFFF#32 = (e : EReal) := by
  refine ⟨16777215 * 2 ^ (104 : ℤ), by positivity, by norm_num, ?_⟩
  simp [Ideal.ofBits, Ideal.ieee, -EReal.coe_mul]
theorem cbot : Ideal.ofBits .f32 0xFF800000#32 = ⊥ := by simp [Ideal.ofBits, Ideal.ieee]

/-! Folds over lists. -/

theorem foldl_add {α : Type*} (g : α → EReal) : ∀ (L : List α) (z : EReal), L.foldl (fun a c => a + g c) z = z + (L.map g).sum
  | [], z => by simp
  | c :: L, z => by rw [List.foldl_cons, foldl_add g L, List.map_cons, List.sum_cons, add_assoc]

theorem foldl_max_le {α : Type*} (g : α → EReal) (y : EReal) : ∀ (L : List α) (z : EReal),
    L.foldl (fun a c => max a (g c)) z ≤ y ↔ z ≤ y ∧ ∀ c ∈ L, g c ≤ y
  | [], z => by simp
  | c :: L, z => by
    rw [List.foldl_cons, foldl_max_le g y L, max_le_iff]
    simp only [List.mem_cons, forall_eq_or_imp, and_assoc]

def ab (x : EReal) : EReal := max x (-x)

theorem ab_nonneg (x : EReal) : 0 ≤ ab x := by
  rcases le_total 0 x with h | h
  · exact h.trans (le_max_left _ _)
  · exact (EReal.neg_nonneg.2 h).trans (le_max_right _ _)

theorem mono_mul {b : EReal} (hb : 0 ≤ b) : Monotone (fun x : EReal => x * b) :=
  fun _ _ h => mul_le_mul_of_nonneg_right h hb

theorem ab_mul {a b : EReal} (hb : 0 ≤ b) : ab (a * b) = ab a * b := by
  unfold ab
  rw [(mono_mul hb).map_max, EReal.neg_mul]

/-- The sum of the squares of a row, in 16 chunks of 256 features of two lanes groups each. -/
theorem sum16 (f : Feat) :
    ∑ l : Fin 128, ((List.finRange 16).foldl (fun a c => a + f ⟨256 * c.val + l.val, by omega⟩ * f ⟨256 * c.val + l.val, by omega⟩
      + f ⟨256 * c.val + (128 + l.val), by omega⟩ * f ⟨256 * c.val + (128 + l.val), by omega⟩) 0) = ∑ d, f d * f d := by
  have h : ∀ l : Fin 128, ((List.finRange 16).foldl (fun a c => a + f ⟨256 * c.val + l.val, by omega⟩ * f ⟨256 * c.val + l.val, by omega⟩
      + f ⟨256 * c.val + (128 + l.val), by omega⟩ * f ⟨256 * c.val + (128 + l.val), by omega⟩) 0)
      = ∑ c : Fin 16, (f ⟨256 * c.val + l.val, by omega⟩ * f ⟨256 * c.val + l.val, by omega⟩
      + f ⟨256 * c.val + (128 + l.val), by omega⟩ * f ⟨256 * c.val + (128 + l.val), by omega⟩) := by
    intro l
    simp only [add_assoc]
    rw [foldl_add, zero_add, Fin.sum_univ_def]
  simp only [h]
  rw [Finset.sum_comm, Fin.sum_univ_tiles 16 256 rfl (fun d : Fin 4096 => f d * f d)]
  refine Finset.sum_congr rfl fun c _ => ?_
  rw [Fin.sum_univ_two_halves 128 128 rfl, Finset.sum_add_distrib]
  congr 1 <;> refine Finset.sum_congr rfl fun l _ => ?_ <;> simp only [mul_comm c.val 256] <;> congr 3 <;> omega

theorem sum32 (f : Feat) :
    ∑ l : Fin 128, ((List.finRange 32).foldl (fun a c => a + f ⟨128 * c.val + l.val, by omega⟩ * f ⟨128 * c.val + l.val, by omega⟩) 0)
      = ∑ d, f d * f d := by
  have h : ∀ l : Fin 128, ((List.finRange 32).foldl (fun a c => a + f ⟨128 * c.val + l.val, by omega⟩ * f ⟨128 * c.val + l.val, by omega⟩) 0)
      = ∑ c : Fin 32, (f ⟨128 * c.val + l.val, by omega⟩ * f ⟨128 * c.val + l.val, by omega⟩) := by
    intro l
    rw [foldl_add, zero_add, Fin.sum_univ_def]
  simp only [h]
  rw [Finset.sum_comm, Fin.sum_univ_tiles 32 128 rfl (fun d : Fin 4096 => f d * f d)]
  refine Finset.sum_congr rfl fun c _ => Finset.sum_congr rfl fun l _ => ?_
  simp only [mul_comm c.val 128]

/-- The largest magnitude of a row, from the 128 lanes' largest. -/
theorem max32 (f : Feat) :
    Finset.univ.fold max (Ideal.ofBits .f32 0xFF800000#32)
      (fun l : Fin 128 => (List.finRange 32).foldl (fun a c => max a (ab (f ⟨128 * c.val + l.val, by omega⟩))) 0)
      = Finset.univ.fold max (Ideal.ofBits .f32 0xFF800000#32) (fun d => ab (f d)) := by
  refine eq_of_forall_ge_iff fun y => ?_
  rw [Finset.fold_max_le, Finset.fold_max_le, cbot]
  simp only [foldl_max_le, bot_le, true_and, Finset.mem_univ, forall_true_left, List.mem_finRange]
  constructor
  · intro h d
    have := (h ⟨d.val % 128, by omega⟩).2 ⟨d.val / 128, by omega⟩
    refine le_of_eq_of_le ?_ this
    congr 2; apply Fin.ext; simp only; omega
  · exact fun h l => ⟨(ab_nonneg _).trans (h 0), fun c => h _⟩

/-- The kernel's reciprocal root is the row's. -/
theorem rs_mul (f : Feat) : Ideal.rsqrt ((∑ d, f d * f d) * Ideal.ofBits .f32 0x39800000#32 + Ideal.ofBits .f32 0x358637BD#32) = rs f := by
  unfold rs
  rw [c4096, cinv4096, Ideal.div_coe (by norm_num)]

theorem sq_nonneg' (x : EReal) : 0 ≤ x * x := by
  induction x with
  | bot => simp
  | top => simp
  | coe r => rw [← EReal.coe_mul, EReal.coe_nonneg]; exact mul_self_nonneg r

/-- Either the reciprocal root is 0, or the row is real and no feature of it passes 64 after the normalisation. -/
theorem rs_cases (f : Feat) : rs f = 0 ∨ ∃ (g : Fin 4096 → ℝ) (k : ℝ), (∀ d, f d = (g d : EReal)) ∧ rs f = (k : EReal) ∧ 0 ≤ k ∧ ∀ d, |g d| * k ≤ 64 := by
  obtain ⟨e, he, hee⟩ := ceps
  have hs : ∀ d, f d * f d ≤ ∑ d, f d * f d := fun d =>
    Finset.single_le_sum (f := fun d => f d * f d) (fun d _ => sq_nonneg' (f d)) (Finset.mem_univ d)
  have hS0 : 0 ≤ ∑ d, f d * f d := Finset.sum_nonneg fun d _ => sq_nonneg' (f d)
  unfold rs
  rw [hee, c4096, Ideal.div_coe (by norm_num)]
  generalize hS : ∑ d, f d * f d = S at hs hS0
  induction S with
  | bot => simp at hS0
  | top =>
    left
    rw [EReal.top_mul_coe_of_pos (by norm_num), EReal.top_add_coe]; rfl
  | coe S =>
    right
    have hf : ∀ d, ∃ g : ℝ, f d = (g : EReal) := by
      intro d
      have h := hs d
      generalize f d = x at h
      induction x with
      | bot => simp at h
      | top => simp at h
      | coe r => exact ⟨r, rfl⟩
    choose g hg using hf
    rw [EReal.coe_nonneg] at hS0
    have hpos : 0 < S * (1 / 4096) + e := by positivity
    refine ⟨g, (Real.sqrt (S * (1 / 4096) + e))⁻¹, hg, ?_, by positivity, fun d => ?_⟩
    · rw [← EReal.coe_mul, ← EReal.coe_add]
      change (if S * (1 / 4096) + e < 0 then (⊥ : EReal) else if S * (1 / 4096) + e = 0 then ⊤ else (((Real.sqrt (S * (1 / 4096) + e))⁻¹ : ℝ) : EReal)) = _
      rw [if_neg hpos.le.not_gt, if_neg hpos.ne']
    · have h := hs d
      rw [hg d, ← EReal.coe_mul, EReal.coe_le_coe_iff] at h
      rw [← div_eq_mul_inv, div_le_iff₀ (Real.sqrt_pos.2 hpos)]
      refine abs_le_of_sq_le_sq' ?_ (by positivity) |>.2
      rw [sq_abs, mul_pow, Real.sq_sqrt hpos.le]
      nlinarith

theorem rs_nonneg (f : Feat) : 0 ≤ rs f := by
  rcases rs_cases f with h | ⟨g, k, _, h, hk, _⟩
  · rw [h]
  · rw [h, EReal.coe_nonneg]; exact hk

/-- The largest |r·gain| by the normalisation is the largest magnitude of the normalised row. -/
theorem vRow_eq (r ng : Feat) :
    Finset.univ.fold max (Ideal.ofBits .f32 0xFF800000#32) (fun d => ab (r d * ng d)) * rs r * Ideal.ofBits .f32 0x3B124925#32
      = vRow (norm r ng) := by
  unfold vRow
  congr 1
  have h : ∀ d, max (norm r ng d) (-norm r ng d) = ab (r d * ng d) * rs r := fun d => by
    rw [← ab_mul (rs_nonneg r), mul_right_comm]; rfl
  simp only [h]
  have hm := mono_mul (rs_nonneg r)
  generalize rs r = k at hm
  refine eq_of_forall_ge_iff fun y => ?_
  rw [Finset.fold_max_le, cbot]
  simp only [bot_le, true_and, Finset.mem_univ, forall_true_left]
  constructor
  · intro hy d
    refine (hm ?_).trans hy
    exact (Finset.le_fold_max _).2 (Or.inr ⟨d, Finset.mem_univ _, le_rfl⟩)
  · intro hy
    obtain ⟨d, _, hd⟩ := Finset.exists_mem_eq_sup' (Finset.univ_nonempty (α := Fin 4096)) (fun d => ab (r d * ng d))
    refine le_trans (hm ?_) (hy d)
    rw [Finset.fold_max_le]
    exact ⟨bot_le, fun x _ => (Finset.le_sup' (fun d => ab (r d * ng d)) (Finset.mem_univ x)).trans_eq hd⟩

/-- With a finite gain the row's `v` is below 2¹²⁶. -/
theorem vRow_range (r ng : Feat) (hng : ∀ d, ab (ng d) ≤ Ideal.ofBits .f32 0x7F7FFFFF#32) :
    0 ≤ vRow (norm r ng) ∧ vRow (norm r ng) < (((2 : ℝ) ^ 126 : ℝ) : EReal) := by
  obtain ⟨m, hm, hm', hme⟩ := cmax
  obtain ⟨k, hk, hk', hke⟩ := cinv448
  rw [hme] at hng
  have hy : ∀ d, ab (norm r ng d) ≤ ((64 * m : ℝ) : EReal) := by
    intro d
    rcases rs_cases r with h | ⟨g, s, hg, h, hs, hb⟩
    · unfold norm; rw [h, mul_zero, zero_mul]
      simp only [ab, neg_zero, max_self]
      exact EReal.coe_nonneg.2 (by positivity)
    · have hd := hng d
      unfold norm; rw [h, hg d]
      generalize ng d = x at hd
      induction x with
      | bot => simp [ab] at hd
      | top => simp [ab] at hd
      | coe x =>
        have habs : ∀ z : ℝ, ab (z : EReal) = ((|z| : ℝ) : EReal) := fun z => by
          rw [abs_eq_max_neg, ab, ← EReal.coe_neg]; exact (EReal.coe_strictMono.monotone.map_max).symm
        rw [habs, EReal.coe_le_coe_iff] at hd
        rw [← EReal.coe_mul, ← EReal.coe_mul, habs, EReal.coe_le_coe_iff, abs_mul, abs_mul, abs_of_nonneg hs]
        exact mul_le_mul (hb d) hd (abs_nonneg _) (by norm_num)
  unfold vRow
  rw [hke]
  have hle : Finset.univ.fold max (Ideal.ofBits .f32 0xFF800000#32) (fun d => max (norm r ng d) (-norm r ng d)) ≤ ((64 * m : ℝ) : EReal) :=
    (Finset.fold_max_le _).2 ⟨by rw [cbot]; exact bot_le, fun d _ => hy d⟩
  have hge : 0 ≤ Finset.univ.fold max (Ideal.ofBits .f32 0xFF800000#32) (fun d => max (norm r ng d) (-norm r ng d)) :=
    (Finset.le_fold_max _).2 (Or.inr ⟨0, Finset.mem_univ _, ab_nonneg _⟩)
  have hkn : (0 : EReal) ≤ (k : EReal) := EReal.coe_nonneg.2 hk.le
  refine ⟨mul_nonneg hge hkn, (mono_mul hkn hle).trans_lt ?_⟩
  simp only
  rw [← EReal.coe_mul, EReal.coe_lt_coe_iff]
  nlinarith

/-- The codes from the unnormalised row by one multiplier. -/
theorem code_eq (r ng : Feat) (hng : ∀ d, ab (ng d) ≤ Ideal.ofBits .f32 0x7F7FFFFF#32) (d : Fin 4096) :
    min (Ideal.ofBits .f32 0x43E00000#32) (max (Ideal.ofBits .f32 0xC3E00000#32)
      (r d * ng d * (rs r * pow2W (IntOp.subi 0#32 (eW (fieldW (vRow (norm r ng))))))))
      = code (norm r ng d) (scale (vRow (norm r ng))) := by
  obtain ⟨h0, h1⟩ := vRow_range r ng hng
  rw [(ladder h0 h1).2]
  unfold code
  congr 2
  rw [← mul_assoc]; congr 1; exact mul_right_comm _ _ _

theorem scale_row (r ng : Feat) (hng : ∀ d, ab (ng d) ≤ Ideal.ofBits .f32 0x7F7FFFFF#32) :
    pow2W (eW (fieldW (vRow (norm r ng)))) = scale (vRow (norm r ng)) :=
  (ladder (vRow_range r ng hng).1 (vRow_range r ng hng).2).1

end Cert.Row

end
-- ==== Proof.Ops.lean ====
/- The kernel's operations on a tile, read at one element over the reals. -/
module

public import proofs.«01_k».proof.Proof.Vocab
public import proofs.«01_k».proof.Proof.RowMath

@[expose] public section

set_option maxRecDepth 16384

noncomputable section

namespace Cert.KernelIdeal.Blk

open Cert.KernelIdeal Cert.KernelIdeal.Gen Idealize.ShloMosaic Idealize.SL.Sem
open Cert.Row (ab)

variable (i : grid0.Coords) (ρ : Fin 64)

theorem bi_lt : (i 1).val < 8 := (i 1).isLt

/-- The batch element of a grid point. -/
abbrev bi : Fin 8 := ⟨(i 1).val, bi_lt i⟩

theorem eq_ofNat (a b : ℕ) (ha : a < 4294967296) (hb : b < 4294967296) {α : Type} (x y : α) :
    Scalar.select (IntOp.cmpi .eq (BitVec.ofNat 32 a) (BitVec.ofNat 32 b)) x y = if a = b then x else y := by
  have : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [Scalar.select, IntOp.cmpi]
  · have hb : (BitVec.ofNat 32 a == BitVec.ofNat 32 b) = false := by simpa [this] using h
    have hc : IntOp.cmpi .eq (BitVec.ofNat 32 a) (BitVec.ofNat 32 b) = 0#1 := by
      simp only [IntOp.cmpi]; rw [hb]; rfl
    rw [if_neg h, hc]; rfl

theorem addi_ofNat (a b : ℕ) : IntOp.addi (BitVec.ofNat 32 a) (BitVec.ofNat 32 b) = BitVec.ofNat 32 (a + b) :=
  (BitVec.ofNat_add a b).symm

theorem pick {n : ℕ} (k : Fin n) (v : Fin n → EReal) : ∑ x : Fin n, (if x.val = k.val then v x else 0) = v k := by
  rw [Finset.sum_eq_single k]
  · simp
  · intro b _ hb; rw [if_neg (fun h => hb (Fin.ext h))]
  · intro h; exact absurd (Finset.mem_univ _) h

theorem srow_at (v : Vec Ideal S1x8x128 .f32) (l : Fin 128) : srow i v (ix2 0 l) = v (ix3 0 (bi i) l) := by
  have h : srow i v (ix2 0 l) = ∑ x : Fin 8, Scalar.select (IntOp.cmpi .eq (BitVec.ofNat 32 x.val) (BitVec.ofNat 32 (i 1).val)) (v (ix3 0 x l)) 0 := by
    pointwise [srow, k0_pay1]
  rw [h]
  have hb := bi_lt i
  rw [← pick (bi i) (fun x => v (ix3 0 x l))]
  refine Finset.sum_congr rfl fun x _ => ?_
  rw [eq_ofNat _ _ (by omega) (by omega)]

theorem rot_at (v : Vec Ideal S1x128 .f32) (l : Fin 128) : rot (F := Ideal) v (ix2 0 l) = v (ix2 0 ⟨(l.val + 64) % 128, by omega⟩) := by
  have h : rot (F := Ideal) v (ix2 0 l) = v (ix2 0 ⟨(l.val + 128 - 64) % 128, by omega⟩) := by
    pointwise [rot]
  rw [h]
  congr 3

theorem smat4_at (a b c d : Vec Ideal S1x128 .f32) (x : Fin 256) :
    smat4 (F := Ideal) a b c d (ix2 ρ x)
      = if h : x.val < 128 then (if x.val = ρ.val + 64 then b (ix2 0 ⟨x.val, h⟩) else if x.val = ρ.val then a (ix2 0 ⟨x.val, h⟩) else 0)
        else (if x.val - 128 = ρ.val + 64 then d (ix2 0 ⟨x.val - 128, by omega⟩) else if x.val - 128 = ρ.val then c (ix2 0 ⟨x.val - 128, by omega⟩) else 0) := by
  pointwise [smat4, lay, diagM, rows, lanes, zero64]
  have h64 : ∀ n : ℕ, IntOp.addi (BitVec.ofNat 32 n) 64#32 = BitVec.ofNat 32 (n + 64) := fun n => addi_ofNat n 64
  have h0 : ∀ n : ℕ, IntOp.addi (BitVec.ofNat 32 n) 0#32 = BitVec.ofNat 32 n := fun n => addi_ofNat n 0
  simp only [h64, h0]
  have hx := x.isLt
  have hr := ρ.isLt
  split
  · rw [eq_ofNat _ _ (by omega) (by omega), eq_ofNat _ _ (by omega) (by omega)]
  · rw [eq_ofNat _ _ (by omega) (by omega), eq_ofNat _ _ (by omega) (by omega)]

theorem tOf_at (sm : FVec Ideal S64x256 .bf16) (codes : Vec Ideal S4x1x64x256 .fp8e4m3) (bias : Vec Ideal S1x256 .f32) (m : Fin 256) :
    tOf sm codes bias (ix2 ρ m)
      = (∑ x : Fin 256, sm (ix2 ρ x) * codes (ix4 ⟨x.val / 64, by omega⟩ 0 ⟨x.val % 64, by omega⟩ m)) + bias (ix2 0 m) := by
  pointwise [tOf]

/-- A matrix of scales laid along four diagonals. -/
def Good (sm : FVec Ideal S64x256 .bf16) (s : Fin 4 → Fin 64 → EReal) : Prop :=
  ∀ (p : Fin 4) (ρ τ : Fin 64), sm (ix2 ρ ⟨p.val * 64 + τ.val, by omega⟩) = if τ.val = ρ.val then s p ρ else 0

theorem smat4_good (a b c d : Vec Ideal S1x128 .f32) (s : Fin 4 → Fin 64 → EReal)
    (ha : ∀ ρ : Fin 64, a (ix2 0 ⟨ρ.val, by omega⟩) = s 0 ρ) (hb : ∀ ρ : Fin 64, b (ix2 0 ⟨ρ.val + 64, by omega⟩) = s 1 ρ)
    (hc : ∀ ρ : Fin 64, c (ix2 0 ⟨ρ.val, by omega⟩) = s 2 ρ) (hd : ∀ ρ : Fin 64, d (ix2 0 ⟨ρ.val + 64, by omega⟩) = s 3 ρ) :
    Good (smat4 (F := Ideal) a b c d) s := by
  intro p ρ τ
  rw [smat4_at]
  have hτ := τ.isLt
  have hρ := ρ.isLt
  by_cases h : τ.val = ρ.val
  · obtain rfl : τ = ρ := Fin.ext h
    rw [if_pos rfl]
    fin_cases p
    · rw [dif_pos (by simp; try omega), if_neg (by simp), if_pos (by simp)]
      refine Eq.trans ?_ (ha τ); congr 3; simp
    · rw [dif_pos (by simp; try omega), if_pos (by simp; try omega)]
      refine Eq.trans ?_ (hb τ); congr 3; simp; omega
    · rw [dif_neg (by simp), if_neg (by simp), if_pos (by simp)]
      refine Eq.trans ?_ (hc τ); congr 3; simp
    · rw [dif_neg (by simp; try omega), if_pos (by simp; try omega)]
      refine Eq.trans ?_ (hd τ); congr 3; simp; omega
  · rw [if_neg h]
    fin_cases p
    · rw [dif_pos (by simp; omega), if_neg (by simp; omega), if_neg (by simp; omega)]
    · rw [dif_pos (by simp; omega), if_neg (by simp; omega), if_neg (by simp; omega)]
    · rw [dif_neg (by simp), if_neg (by simp; omega), if_neg (by simp; omega)]
    · rw [dif_neg (by simp; omega), if_neg (by simp; omega), if_neg (by simp; omega)]

/-- The product by such a matrix is the sum of the four shards' codes by their scales. -/
theorem tOf_good {sm : FVec Ideal S64x256 .bf16} {s : Fin 4 → Fin 64 → EReal} (hs : Good sm s)
    (codes : Vec Ideal S4x1x64x256 .fp8e4m3) (bias : Vec Ideal S1x256 .f32) (m : Fin 256) :
    tOf sm codes bias (ix2 ρ m)
      = codes (ix4 0 0 ρ m) * s 0 ρ + codes (ix4 1 0 ρ m) * s 1 ρ + codes (ix4 2 0 ρ m) * s 2 ρ + codes (ix4 3 0 ρ m) * s 3 ρ + bias (ix2 0 m) := by
  rw [tOf_at]
  congr 1
  rw [Fin.sum_univ_tiles 4 64 rfl]
  have h : ∀ p : Fin 4, (∑ τ : Fin 64, sm (ix2 ρ ⟨p.val * 64 + τ.val, by omega⟩)
      * codes (ix4 ⟨(p.val * 64 + τ.val) / 64, by omega⟩ 0 ⟨(p.val * 64 + τ.val) % 64, by omega⟩ m)) = codes (ix4 p 0 ρ m) * s p ρ := by
    intro p
    rw [← pick ρ (fun τ => codes (ix4 p 0 τ m) * s p ρ)]
    refine Finset.sum_congr rfl fun τ _ => ?_
    rw [hs p ρ τ]
    by_cases hh : τ.val = ρ.val
    · rw [if_pos hh, if_pos hh, mul_comm]
      congr 2;
      have h1 : (⟨(p.val * 64 + τ.val) / 64, by omega⟩ : Fin 4) = p := Fin.ext (by simp only; omega)
      have h2 : (⟨(p.val * 64 + τ.val) % 64, by omega⟩ : Fin 64) = τ := Fin.ext (by simp only; omega)
      rw [h1, h2]
    · rw [if_neg hh, if_neg hh, zero_mul]
  simp only [h, Fin.sum_univ_four]

theorem accT_at (acc : FVec Ideal S64x128 .f32) (t : FVec Ideal S64x256 .f32) (l : Fin 128) :
    accT acc t (ix2 ρ l) = acc (ix2 ρ l) + t (ix2 ρ ⟨l.val, by omega⟩) * t (ix2 ρ ⟨l.val, by omega⟩)
      + t (ix2 ρ ⟨128 + l.val, by omega⟩) * t (ix2 ρ ⟨128 + l.val, by omega⟩) := by
  pointwise [accT]

theorem zero64_at (l : Fin 128) : zero64 (F := Ideal) (ix2 ρ l) = 0 := by pointwise [zero64]

theorem rsOf_at (acc : FVec Ideal S64x128 .f32) :
    rsOf acc (ix2 ρ 0) = Ideal.rsqrt ((∑ l : Fin 128, acc (ix2 ρ l)) * Ideal.ofBits .f32 0x39800000#32 + Ideal.ofBits .f32 0x358637BD#32) := by
  pointwise [rsOf]

theorem nrOf_at (x : Vec Ideal S1x64x128 .bf16) (t rs : FVec Ideal S64x128 .f32) (pg : Vec Ideal S1x128 .f32) (l : Fin 128) :
    nrOf x t rs pg (ix2 ρ l) = x (ix3 0 ρ l) + t (ix2 ρ l) * rs (ix2 ρ l) * pg (ix2 0 l) := by
  pointwise [nrOf]

theorem wOf_at (r : FVec Ideal S64x128 .f32) (ng : Vec Ideal S1x128 .f32) (l : Fin 128) :
    wOf r ng (ix2 ρ l) = r (ix2 ρ l) * ng (ix2 0 l) := by
  pointwise [wOf]

theorem aOf_at (am : FVec Ideal S64x128 .f32) (rs : FVec Ideal S64x1 .f32) :
    aOf am rs (ix2 ρ 0) = Finset.univ.fold max (Ideal.ofBits .f32 0xFF800000#32) (fun l : Fin 128 => am (ix2 ρ l)) * rs (ix2 ρ 0) := by
  pointwise [aOf]

theorem vOf_at (a : FVec Ideal S64x1 .f32) (l : Fin 128) : vOf a (ix2 ρ l) = a (ix2 ρ 0) * Ideal.ofBits .f32 0x3B124925#32 := by
  pointwise [vOf]

theorem step_at (v : FVec Ideal S64x128 .f32) (f : IVec S64x128 32) (b : BitVec 32) (l : Fin 128) :
    step v f b (ix2 ρ l) = Row.stepW (v (ix2 ρ l)) (f (ix2 ρ l)) b := by
  unfold Row.stepW
  pointwise [step]

theorem foldl_step_at (v : FVec Ideal S64x128 .f32) (l : Fin 128) : ∀ (bs : List (BitVec 32)) (f : IVec S64x128 32),
    bs.foldl (step v) f (ix2 ρ l) = bs.foldl (Row.stepW (v (ix2 ρ l))) (f (ix2 ρ l))
  | [], _ => rfl
  | b :: bs, f => by rw [List.foldl_cons, foldl_step_at v l bs, List.foldl_cons, step_at]

theorem field_at (v : FVec Ideal S64x128 .f32) (l : Fin 128) : field v (ix2 ρ l) = Row.fieldW (v (ix2 ρ l)) :=
  foldl_step_at ρ v l _ _

theorem eOf_at (f : IVec S64x128 32) (l : Fin 128) : eOf f (ix2 ρ l) = Row.eW (f (ix2 ρ l)) := rfl

theorem mulC_at (rs : FVec Ideal S64x1 .f32) (e : IVec S64x128 32) (l : Fin 128) :
    mulC rs e (ix2 ρ l) = rs (ix2 ρ 0) * Row.pow2W (IntOp.subi 0#32 (e (ix2 ρ l))) := by
  unfold Row.pow2W
  pointwise [mulC, pow2]

theorem codeOf_at (w mul : FVec Ideal S64x128 .f32) (l : Fin 128) :
    codeOf w mul (ix2 ρ l) = min (Ideal.ofBits .f32 0x43E00000#32) (max (Ideal.ofBits .f32 0xC3E00000#32) (w (ix2 ρ l) * mul (ix2 ρ l))) := by
  pointwise [codeOf]

theorem yrow0_at (e : IVec S64x128 32) (l : Fin 128) :
    yrow (F := Ideal) 0#32 e (ix2 0 l) = if h : l.val < 64 then Row.pow2W (e (ix2 ⟨l.val, h⟩ l)) else 0 := by
  have h : yrow (F := Ideal) 0#32 e (ix2 0 l) = ∑ x : Fin 64, Scalar.select (IntOp.cmpi .eq (BitVec.ofNat 32 l.val) (IntOp.addi (BitVec.ofNat 32 x.val) 0#32))
      (Row.pow2W (e (ix2 x l))) 0 := by
    unfold Row.pow2W
    pointwise [yrow, diagM, rows, lanes, zero64, pow2]
  have h0 : ∀ n : ℕ, IntOp.addi (BitVec.ofNat 32 n) 0#32 = BitVec.ofNat 32 n := fun n => addi_ofNat n 0
  rw [h]
  simp only [h0]
  split
  · rename_i hl
    rw [← pick (⟨l.val, hl⟩ : Fin 64) (fun x => Row.pow2W (e (ix2 x l)))]
    refine Finset.sum_congr rfl fun x _ => ?_
    rw [eq_ofNat _ _ (by omega) (by omega)]
    simp only [eq_comm]
  · refine Finset.sum_eq_zero fun x _ => ?_
    rw [eq_ofNat _ _ (by omega) (by omega), if_neg (by omega)]

theorem yrow64_at (e : IVec S64x128 32) (l : Fin 128) :
    yrow (F := Ideal) 64#32 e (ix2 0 l) = if h : l.val < 64 then 0 else Row.pow2W (e (ix2 ⟨l.val - 64, by omega⟩ l)) := by
  have h : yrow (F := Ideal) 64#32 e (ix2 0 l) = ∑ x : Fin 64, Scalar.select (IntOp.cmpi .eq (BitVec.ofNat 32 l.val) (IntOp.addi (BitVec.ofNat 32 x.val) 64#32))
      (Row.pow2W (e (ix2 x l))) 0 := by
    unfold Row.pow2W
    pointwise [yrow, diagM, rows, lanes, zero64, pow2]
  have h0 : ∀ n : ℕ, IntOp.addi (BitVec.ofNat 32 n) 64#32 = BitVec.ofNat 32 (n + 64) := fun n => addi_ofNat n 64
  rw [h]
  simp only [h0]
  split
  · refine Finset.sum_eq_zero fun x _ => ?_
    rw [eq_ofNat _ _ (by omega) (by omega), if_neg (by omega)]
  · rename_i hl
    rw [← pick (⟨l.val - 64, by omega⟩ : Fin 64) (fun x => Row.pow2W (e (ix2 x l)))]
    refine Finset.sum_congr rfl fun x _ => ?_
    rw [eq_ofNat _ _ (by omega) (by omega)]
    have : l.val = x.val + 64 ↔ x.val = l.val - 64 := by omega
    simp only [this]

theorem ysOf_at (a b : IVec S64x128 32) (old : Vec Ideal S8x128 .f32) (q : Fin 8) (l : Fin 128) :
    ysOf i a b old (ix2 q l) = if q = bi i then
      (if h : l.val < 64 then Row.pow2W (a (ix2 ⟨l.val, h⟩ l)) else Row.pow2W (b (ix2 ⟨l.val - 64, by omega⟩ l))) else old (ix2 q l) := by
  have h : ysOf i a b old (ix2 q l) = Scalar.select (IntOp.cmpi .eq (BitVec.ofNat 32 q.val) (BitVec.ofNat 32 (i 1).val))
      (yrow (F := Ideal) 0#32 a (ix2 0 l) + yrow (F := Ideal) 64#32 b (ix2 0 l)) (old (ix2 q l)) := by
    pointwise [ysOf, k0_pay1]
  have hb := bi_lt i
  rw [h, eq_ofNat _ _ (by omega) (by omega), yrow0_at, yrow64_at]
  have : q.val = (i 1).val ↔ q = bi i := ⟨fun h => Fin.ext h, fun h => congrArg Fin.val h⟩
  simp only [this]
  split
  · split <;> simp
  · rfl

end Cert.KernelIdeal.Blk

end
-- ==== Proof.Tile.lean ====
/- One tile of 64 tokens of a grid point: every chunk the body computes is the row function of `Spec.lean` at the tile's
   tokens, and so are the two scratch buffers and the two outputs' stores. -/
module

public import proofs.«01_k».proof.Proof.Bridge
public import proofs.«01_k».proof.Proof.Ops
public import Idealize.ShloMosaic.Lib.Pipeline.CanonAppend
public import Idealize.ShloMosaic.Lib.Pipeline.ValueKit

@[expose] public section

set_option maxRecDepth 16384

noncomputable section

namespace Cert.KernelIdeal.Blk

open Cert.KernelIdeal Cert.KernelIdeal.Gen Idealize.ShloMosaic Idealize.SL.Sem
open Cert.Row (ab Feat)

theorem foldr_cons {α β : Type*} (P : α → β) (old : List β) : ∀ L : List α, L.foldr (fun c L => P c :: L) old = L.map P ++ old
  | [] => rfl
  | c :: L => by rw [List.foldr_cons, foldr_cons P old L]; rfl

theorem mem_l16r (c : Fin 16) : c ∈ l16r := by revert c; decide
theorem mem_l32r (c : Fin 32) : c ∈ l32r := by revert c; decide
theorem l16_eq : l16 = List.finRange 16 := by decide
theorem l32_eq : l32 = List.finRange 32 := by decide

theorem foldl_at {α β : Type*} {S : Type*} (T : (S → β) → α → (S → β)) (g : β → α → β) (y : S) (h : ∀ A c, T A c y = g (A y) c) :
    ∀ (L : List α) (A : S → β), L.foldl T A y = L.foldl g (A y)
  | [], _ => rfl
  | c :: L, A => by rw [List.foldl_cons, foldl_at T g y h L, List.foldl_cons, h]

variable (i : grid0.Coords) (x0 : Vec Ideal S4x8x256 .f32) (x1 : Vec Ideal S4x1x256x4096 .fp8e4m3) (x2 : Vec Ideal S1x256x4096 .bf16)
  (x3 : Vec Ideal S1x4096 .f32) (x4 : Vec Ideal S1x4096 .f32) (x5 : Vec Ideal S1x4096 .f32)

/-- Token `ρ` of tile `j`. -/
abbrev tok (j : Fin 4) (ρ : Fin 64) : Fin 256 := ⟨64 * j.val + ρ.val, by omega⟩

/-- The rows of the block's tokens: the dequantised sum, the new residual, the normalised row. -/
def kt (n : Fin 256) : Feat := Row.tRow (fun p d => x1 (ix4 p 0 n d)) (fun p => x0 (ix3 p (bi i) n)) (fun d => x3 (ix2 0 d))
def kh (n : Fin 256) : Feat := Row.hRow (fun d => x2 (ix3 0 n d)) (kt i x0 x1 x3 n) (fun d => x4 (ix2 0 d))
def ky (n : Fin 256) : Feat := Row.norm (kh i x0 x1 x2 x3 x4 n) (fun d => x5 (ix2 0 d))

def sOf (j : Fin 4) : Fin 4 → Fin 64 → EReal := fun p ρ => x0 (ix3 p (bi i) (tok j ρ))

/-! Reads of the input blocks. -/

theorem ld0 (p : Fin 4) (h : Fin 2) (q : Fin 8) (l : Fin 128) :
    View.ld x0 (Rect.unit ![p.val, 0, 128 * h.val] S1x8x128.size (inb0 p h)) (ix3 0 q l) = x0 (ix3 p q ⟨128 * h.val + l.val, by omega⟩) := by
  unfold View.ld; blk_ext <;> (rw [LoadRect.idx_apply]; simp)
theorem ld1 (j : Fin 4) (c : Fin 16) (p : Fin 4) (ρ : Fin 64) (m : Fin 256) :
    View.ld x1 (Rect.unit ![0, 0, 64 * j.val, 256 * c.val] S4x1x64x256.size (inb1 j c)) (ix4 p 0 ρ m)
      = x1 (ix4 p 0 (tok j ρ) ⟨256 * c.val + m.val, by omega⟩) := by
  unfold View.ld; blk_ext <;> (rw [LoadRect.idx_apply]; simp)
theorem ld2 (j : Fin 4) (c : Fin 32) (ρ : Fin 64) (l : Fin 128) :
    View.ld x2 (Rect.unit ![0, 64 * j.val, 128 * c.val] S1x64x128.size (inb2 j c)) (ix3 0 ρ l)
      = x2 (ix3 0 (tok j ρ) ⟨128 * c.val + l.val, by omega⟩) := by
  unfold View.ld; blk_ext <;> (rw [LoadRect.idx_apply]; simp)
theorem ld3 (x : Vec Ideal S1x4096 .f32) (c : Fin 16) (m : Fin 256) :
    View.ld x (Rect.unit ![0, 256 * c.val] S1x256.size (inb3 c)) (ix2 0 m) = x (ix2 0 ⟨256 * c.val + m.val, by omega⟩) := by
  unfold View.ld; blk_ext <;> (rw [LoadRect.idx_apply]; simp)
theorem ld4 (x : Vec Ideal S1x4096 .f32) (c : Fin 32) (l : Fin 128) :
    View.ld x (Rect.unit ![0, 128 * c.val] S1x128.size (inb4 c)) (ix2 0 l) = x (ix2 0 ⟨128 * c.val + l.val, by omega⟩) := by
  unfold View.ld; blk_ext <;> (rw [LoadRect.idx_apply]; simp)
theorem ldW (X : Vec Ideal S64x4096 .f32) (c : Fin 32) (ρ : Fin 64) (l : Fin 128) :
    View.ld X (Rect.unit ![0, 128 * c.val] S64x128.size (inbW c)) (ix2 ρ l) = X (ix2 ρ ⟨128 * c.val + l.val, by omega⟩) := by
  unfold View.ld; blk_ext <;> (rw [LoadRect.idx_apply]; simp)

/-! The scale matrices. -/

theorem row0_at (p : Fin 4) (h : Fin 2) (l : Fin 128) : row0 i (rdV x0 x1 x2 x3 x4 x5) p h (ix2 0 l) = x0 (ix3 p (bi i) ⟨128 * h.val + l.val, by omega⟩) := by
  unfold row0
  rw [srow_at]
  exact ld0 x0 p h (bi i) l

theorem smatE_good (h : Fin 2) (j : Fin 4) (hj : j.val = 2 * h.val) : Good (smatE i (rdV x0 x1 x2 x3 x4 x5) h) (sOf i x0 j) := by
  refine smat4_good _ _ _ _ _ (fun ρ => ?_) (fun ρ => ?_) (fun ρ => ?_) (fun ρ => ?_)
  all_goals
    first
    | rw [rot_at, row0_at]
    | rw [row0_at]
    unfold sOf
    congr 2
    apply Fin.ext; simp only [tok]; omega

theorem smatO_good (h : Fin 2) (j : Fin 4) (hj : j.val = 2 * h.val + 1) : Good (smatO i (rdV x0 x1 x2 x3 x4 x5) h) (sOf i x0 j) := by
  refine smat4_good _ _ _ _ _ (fun ρ => ?_) (fun ρ => ?_) (fun ρ => ?_) (fun ρ => ?_)
  all_goals
    first
    | rw [rot_at, row0_at]
    | rw [row0_at]
    unfold sOf
    congr 2
    apply Fin.ext; simp only [tok]; omega

/-! One tile. -/

section
variable (j : Fin 4) (sm : FVec Ideal S64x256 .bf16) (hs : Good sm (sOf i x0 j))
include hs

theorem tC_at (c : Fin 16) (ρ : Fin 64) (m : Fin 256) : tC (rdV x0 x1 x2 x3 x4 x5) sm j c (ix2 ρ m) = kt i x0 x1 x3 (tok j ρ) ⟨256 * c.val + m.val, by omega⟩ := by
  unfold tC
  rw [tOf_good ρ hs]
  unfold kt Row.tRow sOf
  have h1 : ∀ p, ((rdV x0 x1 x2 x3 x4 x5)).l1 (Rect.unit ![0, 0, 64 * j.val, 256 * c.val] S4x1x64x256.size (inb1 j c)) (ix4 p 0 ρ m) = _ := fun p => ld1 x1 j c p ρ m
  have h3 : ((rdV x0 x1 x2 x3 x4 x5)).l3 (Rect.unit ![0, 256 * c.val] S1x256.size (inb3 c)) (ix2 0 m) = _ := ld3 x3 c m
  rw [h1, h1, h1, h1, h3]

theorem rs1_at (ρ : Fin 64) (l : Fin 128) : rs1 (rdV x0 x1 x2 x3 x4 x5) sm j (ix2 ρ l) = Row.rs (kt i x0 x1 x3 (tok j ρ)) := by
  have h : rs1 (rdV x0 x1 x2 x3 x4 x5) sm j (ix2 ρ l) = rsOf (l16.foldl (fun a c => accT a (tC (rdV x0 x1 x2 x3 x4 x5) sm j c)) zero64) (ix2 ρ 0) := by
    unfold rs1
    generalize rsOf (l16.foldl (fun a c => accT a (tC (rdV x0 x1 x2 x3 x4 x5) sm j c)) zero64) = X
    pointwise
  rw [h, rsOf_at, ← Row.rs_mul, ← Row.sum16]
  congr 3
  refine Finset.sum_congr rfl fun l _ => ?_
  rw [foldl_at (fun a c => accT a (tC (rdV x0 x1 x2 x3 x4 x5) sm j c)) (fun a c => a + tC (rdV x0 x1 x2 x3 x4 x5) sm j c (ix2 ρ ⟨l.val, by omega⟩) * tC (rdV x0 x1 x2 x3 x4 x5) sm j c (ix2 ρ ⟨l.val, by omega⟩)
      + tC (rdV x0 x1 x2 x3 x4 x5) sm j c (ix2 ρ ⟨128 + l.val, by omega⟩) * tC (rdV x0 x1 x2 x3 x4 x5) sm j c (ix2 ρ ⟨128 + l.val, by omega⟩)) (ix2 ρ l) (fun A c => accT_at ρ A _ l), l16_eq, zero64_at]
  simp only [tC_at i x0 x1 x2 x3 x4 x5 j sm hs]

theorem canon_tPs (old : List (View.Piece (Elt Ideal) S64x4096 .f32)) (ρ : Fin 64) (d : Fin 4096) :
    View.canon (tPs (rdV x0 x1 x2 x3 x4 x5) sm j old) (ix2 ρ d) = kt i x0 x1 x3 (tok j ρ) d := by
  unfold tPs
  rw [foldr_cons]
  refine View.canon_append_of_pieces (Val := Elt Ideal) (e := .f32) (fun y : S64x4096.Idx => kt i x0 x1 x3 (tok j (y 0)) (y 1)) _ _ (fun p hp x => ?_) (ix2 ρ d) ?_
  · obtain ⟨c, _, rfl⟩ := List.mem_map.1 hp
    obtain ⟨ρ', m, rfl⟩ : ∃ (ρ' : Fin 64) (m : Fin 256), x = ix2 ρ' m := ⟨_, _, eq_ix2 x⟩
    have h : shapeCast S64x256 (tC (rdV x0 x1 x2 x3 x4 x5) sm j c) shapeCasts_S64x256_S64x256 (ix2 ρ' m) = tC (rdV x0 x1 x2 x3 x4 x5) sm j c (ix2 ρ' m) := by
      generalize tC (rdV x0 x1 x2 x3 x4 x5) sm j c = X; pointwise
    refine (h.trans (tC_at i x0 x1 x2 x3 x4 x5 j sm hs c ρ' m)).trans ?_
    simp only
    congr 1
    · congr 2; apply Fin.ext; blk_simp
    · apply Fin.ext; blk_simp
  · refine ⟨_, List.mem_map.2 ⟨⟨d.val / 256, by omega⟩, mem_l16r _, rfl⟩, ?_⟩
    rw [Rect.mem_set_unit]
    intro a
    fin_cases a
    · simp
    · simp; omega

/-- The new residual's chunks; the first scratch holds the dequantised sum. -/
theorem nrC_at (old : List (View.Piece (Elt Ideal) S64x4096 .f32)) (c : Fin 32) (ρ : Fin 64) (l : Fin 128) :
    nrC (rdV x0 x1 x2 x3 x4 x5) sm j (tPs (rdV x0 x1 x2 x3 x4 x5) sm j old) c (ix2 ρ l) = kh i x0 x1 x2 x3 x4 (tok j ρ) ⟨128 * c.val + l.val, by omega⟩ := by
  unfold nrC
  rw [nrOf_at, rs1_at i x0 x1 x2 x3 x4 x5 j sm hs]
  have h2 : ((rdV x0 x1 x2 x3 x4 x5)).l2 (Rect.unit ![0, 64 * j.val, 128 * c.val] S1x64x128.size (inb2 j c)) (ix3 0 ρ l) = _ := ld2 x2 j c ρ l
  have h4 : ((rdV x0 x1 x2 x3 x4 x5)).l4 (Rect.unit ![0, 128 * c.val] S1x128.size (inb4 c)) (ix2 0 l) = _ := ld4 x4 c l
  have h0 : ((rdV x0 x1 x2 x3 x4 x5)).s0 (tPs (rdV x0 x1 x2 x3 x4 x5) sm j old) (Rect.unit ![0, 128 * c.val] S64x128.size (inbW c)) (ix2 ρ l) = _ :=
    (ldW (View.canon (tPs (rdV x0 x1 x2 x3 x4 x5) sm j old)) c ρ l).trans (canon_tPs i x0 x1 x2 x3 x4 x5 j sm hs old ρ _)
  rw [h2, h4, h0]
  rfl

theorem rC_at (old : List (View.Piece (Elt Ideal) S64x4096 .f32)) (c : Fin 32) (ρ : Fin 64) (l : Fin 128) :
    rC (rdV x0 x1 x2 x3 x4 x5) sm j (tPs (rdV x0 x1 x2 x3 x4 x5) sm j old) c (ix2 ρ l) = kh i x0 x1 x2 x3 x4 (tok j ρ) ⟨128 * c.val + l.val, by omega⟩ :=
  nrC_at i x0 x1 x2 x3 x4 x5 j sm hs old c ρ l

theorem wC_at (old : List (View.Piece (Elt Ideal) S64x4096 .f32)) (c : Fin 32) (ρ : Fin 64) (l : Fin 128) :
    wC (rdV x0 x1 x2 x3 x4 x5) sm j (tPs (rdV x0 x1 x2 x3 x4 x5) sm j old) c (ix2 ρ l)
      = kh i x0 x1 x2 x3 x4 (tok j ρ) ⟨128 * c.val + l.val, by omega⟩ * x5 (ix2 0 ⟨128 * c.val + l.val, by omega⟩) := by
  unfold wC
  have h5 : ((rdV x0 x1 x2 x3 x4 x5)).l5 (Rect.unit ![0, 128 * c.val] S1x128.size (inb4 c)) (ix2 0 l) = _ := ld4 x5 c l
  rw [wOf_at, rC_at i x0 x1 x2 x3 x4 x5 j sm hs, h5]

theorem rs2_at (old : List (View.Piece (Elt Ideal) S64x4096 .f32)) (ρ : Fin 64) :
    rs2 (rdV x0 x1 x2 x3 x4 x5) sm j (tPs (rdV x0 x1 x2 x3 x4 x5) sm j old) (ix2 ρ 0) = Row.rs (kh i x0 x1 x2 x3 x4 (tok j ρ)) := by
  unfold rs2
  rw [rsOf_at, ← Row.rs_mul, ← Row.sum32]
  congr 3
  refine Finset.sum_congr rfl fun l _ => ?_
  rw [foldl_at (fun a c => addf a (mulf (rC (rdV x0 x1 x2 x3 x4 x5) sm j (tPs (rdV x0 x1 x2 x3 x4 x5) sm j old) c) (rC (rdV x0 x1 x2 x3 x4 x5) sm j (tPs (rdV x0 x1 x2 x3 x4 x5) sm j old) c)))
    (fun a c => a + rC (rdV x0 x1 x2 x3 x4 x5) sm j (tPs (rdV x0 x1 x2 x3 x4 x5) sm j old) c (ix2 ρ l) * rC (rdV x0 x1 x2 x3 x4 x5) sm j (tPs (rdV x0 x1 x2 x3 x4 x5) sm j old) c (ix2 ρ l)) (ix2 ρ l) (fun A c => rfl), l32_eq, zero64_at]
  simp only [rC_at i x0 x1 x2 x3 x4 x5 j sm hs]

theorem vC_at (old : List (View.Piece (Elt Ideal) S64x4096 .f32)) (ρ : Fin 64) (l : Fin 128) :
    vC (rdV x0 x1 x2 x3 x4 x5) sm j (tPs (rdV x0 x1 x2 x3 x4 x5) sm j old) (ix2 ρ l) = Row.vRow (ky i x0 x1 x2 x3 x4 x5 (tok j ρ)) := by
  unfold vC
  rw [vOf_at, aOf_at, rs2_at i x0 x1 x2 x3 x4 x5 j sm hs]
  unfold ky
  rw [← Row.vRow_eq, ← Row.max32]
  congr 2
  congr 1
  funext l
  rw [foldl_at (fun a c => maximumf a (absf (wC (rdV x0 x1 x2 x3 x4 x5) sm j (tPs (rdV x0 x1 x2 x3 x4 x5) sm j old) c)))
    (fun a c => max a (ab (wC (rdV x0 x1 x2 x3 x4 x5) sm j (tPs (rdV x0 x1 x2 x3 x4 x5) sm j old) c (ix2 ρ l)))) (ix2 ρ l) (fun A c => rfl), l32_eq, zero64_at]
  simp only [wC_at i x0 x1 x2 x3 x4 x5 j sm hs]

theorem canon_wPs (oldT old : List (View.Piece (Elt Ideal) S64x4096 .f32)) (ρ : Fin 64) (d : Fin 4096) :
    View.canon (wPs (rdV x0 x1 x2 x3 x4 x5) sm j (tPs (rdV x0 x1 x2 x3 x4 x5) sm j oldT) old) (ix2 ρ d) = kh i x0 x1 x2 x3 x4 (tok j ρ) d * x5 (ix2 0 d) := by
  unfold wPs
  rw [foldr_cons]
  refine View.canon_append_of_pieces (Val := Elt Ideal) (e := .f32) (fun y : S64x4096.Idx => kh i x0 x1 x2 x3 x4 (tok j (y 0)) (y 1) * x5 (ix2 0 (y 1))) _ _ (fun p hp x => ?_) (ix2 ρ d) ?_
  · obtain ⟨c, _, rfl⟩ := List.mem_map.1 hp
    obtain ⟨ρ', m, rfl⟩ : ∃ (ρ' : Fin 64) (m : Fin 128), x = ix2 ρ' m := ⟨_, _, eq_ix2 x⟩
    have h : shapeCast S64x128 (wC (rdV x0 x1 x2 x3 x4 x5) sm j (tPs (rdV x0 x1 x2 x3 x4 x5) sm j oldT) c) shapeCasts_S64x128_S64x128 (ix2 ρ' m) = wC (rdV x0 x1 x2 x3 x4 x5) sm j (tPs (rdV x0 x1 x2 x3 x4 x5) sm j oldT) c (ix2 ρ' m) := by
      generalize wC (rdV x0 x1 x2 x3 x4 x5) sm j (tPs (rdV x0 x1 x2 x3 x4 x5) sm j oldT) c = X; pointwise
    refine (h.trans (wC_at i x0 x1 x2 x3 x4 x5 j sm hs oldT c ρ' m)).trans ?_
    have he0 : (Rect.unit (s := S64x4096) ![0, 128 * c.val] S64x128.size (inbW c)).emb (ix2 ρ' m) 0 = ρ' := by apply Fin.ext; blk_simp
    have he1 : (Rect.unit (s := S64x4096) ![0, 128 * c.val] S64x128.size (inbW c)).emb (ix2 ρ' m) 1 = (⟨128 * c.val + m.val, by omega⟩ : Fin 4096) := by apply Fin.ext; blk_simp
    simp only
    rw [he0, he1]
  · refine ⟨_, List.mem_map.2 ⟨⟨d.val / 128, by omega⟩, mem_l32r _, rfl⟩, ?_⟩
    rw [Rect.mem_set_unit]
    intro a
    fin_cases a
    · simp
    · simp; omega

theorem eC_at (old : List (View.Piece (Elt Ideal) S64x4096 .f32)) (ρ : Fin 64) (l : Fin 128) :
    eC (rdV x0 x1 x2 x3 x4 x5) sm j (tPs (rdV x0 x1 x2 x3 x4 x5) sm j old) (ix2 ρ l) = Row.eW (Row.fieldW (Row.vRow (ky i x0 x1 x2 x3 x4 x5 (tok j ρ)))) := by
  unfold eC
  rw [eOf_at, field_at, vC_at i x0 x1 x2 x3 x4 x5 j sm hs]

/-- The codes' chunks; the second scratch holds the row by the gain. -/
theorem code_at (hng : ∀ d, ab (x5 (ix2 0 d)) ≤ Ideal.ofBits .f32 0x7F7FFFFF#32) (oldT old : List (View.Piece (Elt Ideal) S64x4096 .f32))
    (c : Fin 32) (ρ : Fin 64) (l : Fin 128) :
    codeOf (((rdV x0 x1 x2 x3 x4 x5)).s1 (wPs (rdV x0 x1 x2 x3 x4 x5) sm j (tPs (rdV x0 x1 x2 x3 x4 x5) sm j oldT) old) (Rect.unit ![0, 128 * c.val] S64x128.size (inbW c)))
        (mulC (rs2 (rdV x0 x1 x2 x3 x4 x5) sm j (tPs (rdV x0 x1 x2 x3 x4 x5) sm j oldT)) (eC (rdV x0 x1 x2 x3 x4 x5) sm j (tPs (rdV x0 x1 x2 x3 x4 x5) sm j oldT))) (ix2 ρ l)
      = Row.code (ky i x0 x1 x2 x3 x4 x5 (tok j ρ) ⟨128 * c.val + l.val, by omega⟩) (Row.scale (Row.vRow (ky i x0 x1 x2 x3 x4 x5 (tok j ρ)))) := by
  have h1 : ((rdV x0 x1 x2 x3 x4 x5)).s1 (wPs (rdV x0 x1 x2 x3 x4 x5) sm j (tPs (rdV x0 x1 x2 x3 x4 x5) sm j oldT) old) (Rect.unit ![0, 128 * c.val] S64x128.size (inbW c)) (ix2 ρ l) = _ :=
    (ldW (View.canon (wPs (rdV x0 x1 x2 x3 x4 x5) sm j (tPs (rdV x0 x1 x2 x3 x4 x5) sm j oldT) old)) c ρ l).trans (canon_wPs i x0 x1 x2 x3 x4 x5 j sm hs oldT old ρ _)
  rw [codeOf_at, mulC_at, h1, rs2_at i x0 x1 x2 x3 x4 x5 j sm hs, eC_at i x0 x1 x2 x3 x4 x5 j sm hs]
  exact Row.code_eq _ _ hng _

end

end Cert.KernelIdeal.Blk

end
-- ==== Proof.Point.lean ====
/- What one grid point leaves in the three outputs' blocks: the row functions at its 256 tokens. -/
module

public import proofs.«01_k».proof.Proof.Tile

@[expose] public section

set_option maxRecDepth 16384

noncomputable section

namespace Cert.KernelIdeal.Blk

open Cert.KernelIdeal Cert.KernelIdeal.Gen Idealize.ShloMosaic Idealize.SL.Sem
open Cert.Row (ab Feat)

variable (i : grid0.Coords) (x0 : Vec Ideal S4x8x256 .f32) (x1 : Vec Ideal S4x1x256x4096 .fp8e4m3) (x2 : Vec Ideal S1x256x4096 .bf16)
  (x3 : Vec Ideal S1x4096 .f32) (x4 : Vec Ideal S1x4096 .f32) (x5 : Vec Ideal S1x4096 .f32)

/-- The row's scale and its codes. -/
def kscale (n : Fin 256) : EReal := Row.scale (Row.vRow (ky i x0 x1 x2 x3 x4 x5 n))
def kcode (n : Fin 256) (d : Fin 4096) : EReal := Row.code (ky i x0 x1 x2 x3 x4 x5 n d) (kscale i x0 x1 x2 x3 x4 x5 n)

/-- Every store of the list is `G` on its rectangle. -/
def All {S : Shape} {e : EltTy} (G : S.Idx → Elt Ideal e) (L : List (View.Piece (Elt Ideal) S e)) : Prop :=
  ∀ p ∈ L, ∀ x : p.1.shape.Idx, p.2 x = G (p.1.emb x)

theorem All.nil {S : Shape} {e : EltTy} (G : S.Idx → Elt Ideal e) : All G [] := fun p hp => by simp at hp

theorem emb_tok (j : Fin 4) (c : Fin 32) (ρ : Fin 64) (l : Fin 128) :
    (Rect.unit (s := S1x256x4096) ![0, 64 * j.val, 128 * c.val] S1x64x128.size (inb2 j c)).emb (ix3 0 ρ l)
      = ix3 0 (tok j ρ) (⟨128 * c.val + l.val, by omega⟩ : Fin 4096) := by
  funext a
  apply Fin.ext
  fin_cases a <;> blk_simp <;> rfl

theorem ex_ix3 (x : S1x64x128.Idx) : ∃ (ρ : Fin 64) (l : Fin 128), x = ix3 0 ρ l := by
  refine ⟨x 1, x 2, ?_⟩
  refine (eq_ix3 x).trans ?_
  have : x 0 = (0 : Fin 1) := Subsingleton.elim (α := Fin 1) _ _
  rw [this]

section
variable (j : Fin 4) (sm : FVec Ideal S64x256 .bf16) (hs : Good sm (sOf i x0 j))

include hs in
theorem all_nrPs (oldT : List (View.Piece (Elt Ideal) S64x4096 .f32)) {old : List (View.Piece (Elt Ideal) S1x256x4096 .bf16)}
    (h : All (fun y : S1x256x4096.Idx => kh i x0 x1 x2 x3 x4 (y 1) (y 2)) old) :
    All (fun y : S1x256x4096.Idx => kh i x0 x1 x2 x3 x4 (y 1) (y 2)) (nrPs (rdV x0 x1 x2 x3 x4 x5) sm j (tPs (rdV x0 x1 x2 x3 x4 x5) sm j oldT) old) := by
  intro p hp x
  unfold nrPs at hp
  rw [foldr_cons, List.mem_append] at hp
  rcases hp with hp | hp
  · obtain ⟨c, _, rfl⟩ := List.mem_map.1 hp
    obtain ⟨ρ, l, rfl⟩ := ex_ix3 x
    have h : shapeCast S1x64x128 (nrC (rdV x0 x1 x2 x3 x4 x5) sm j (tPs (rdV x0 x1 x2 x3 x4 x5) sm j oldT) c) shapeCasts_S64x128_S1x64x128 (ix3 0 ρ l) = nrC (rdV x0 x1 x2 x3 x4 x5) sm j (tPs (rdV x0 x1 x2 x3 x4 x5) sm j oldT) c (ix2 ρ l) := by
      generalize nrC (rdV x0 x1 x2 x3 x4 x5) sm j (tPs (rdV x0 x1 x2 x3 x4 x5) sm j oldT) c = X; pointwise
    refine (h.trans (nrC_at i x0 x1 x2 x3 x4 x5 j sm hs oldT c ρ l)).trans ?_
    exact (congrArg (fun y : S1x256x4096.Idx => kh i x0 x1 x2 x3 x4 (y 1) (y 2)) (emb_tok j c ρ l)).symm
  · exact h p hp x

include hs in
theorem all_codePs (hng : ∀ d, ab (x5 (ix2 0 d)) ≤ Ideal.ofBits .f32 0x7F7FFFFF#32) (oldT oldW : List (View.Piece (Elt Ideal) S64x4096 .f32))
    {old : List (View.Piece (Elt Ideal) S1x256x4096 .fp8e4m3)}
    (h : All (fun y : S1x256x4096.Idx => kcode i x0 x1 x2 x3 x4 x5 (y 1) (y 2)) old) :
    All (fun y : S1x256x4096.Idx => kcode i x0 x1 x2 x3 x4 x5 (y 1) (y 2)) (codePs (rdV x0 x1 x2 x3 x4 x5) sm j (tPs (rdV x0 x1 x2 x3 x4 x5) sm j oldT) (wPs (rdV x0 x1 x2 x3 x4 x5) sm j (tPs (rdV x0 x1 x2 x3 x4 x5) sm j oldT) oldW) old) := by
  intro p hp x
  unfold codePs at hp
  rw [foldr_cons, List.mem_append] at hp
  rcases hp with hp | hp
  · obtain ⟨c, _, rfl⟩ := List.mem_map.1 hp
    obtain ⟨ρ, l, rfl⟩ := ex_ix3 x
    have h : ∀ X : FVec Ideal S64x128 .fp8e4m3, shapeCast S1x64x128 X shapeCasts_S64x128_S1x64x128 (ix3 0 ρ l) = X (ix2 ρ l) := by
      intro X; pointwise
    refine ((h _).trans (code_at i x0 x1 x2 x3 x4 x5 j sm hs hng oldT oldW c ρ l)).trans ?_
    exact (congrArg (fun y : S1x256x4096.Idx => kcode i x0 x1 x2 x3 x4 x5 (y 1) (y 2)) (emb_tok j c ρ l)).symm
  · exact h p hp x

theorem mem_tok (n : Fin 256) (d : Fin 4096) (hj : n.val / 64 = j.val) :
    ix3 (0 : Fin 1) n d ∈ (Rect.unit (s := S1x256x4096) ![0, 64 * j.val, 128 * (d.val / 128)] S1x64x128.size (inb2 j ⟨d.val / 128, by omega⟩)).set := by
  rw [Rect.mem_set_unit]
  intro a
  fin_cases a
  · simp
  · simp; omega
  · simp; omega

theorem mem_nrPs (TP : List (View.Piece (Elt Ideal) S64x4096 .f32)) (old : List (View.Piece (Elt Ideal) S1x256x4096 .bf16)) (n : Fin 256) (d : Fin 4096)
    (h : n.val / 64 = j.val ∨ ∃ p ∈ old, ix3 (0 : Fin 1) n d ∈ p.1.set) : ∃ p ∈ nrPs (rdV x0 x1 x2 x3 x4 x5) sm j TP old, ix3 (0 : Fin 1) n d ∈ p.1.set := by
  unfold nrPs
  rw [foldr_cons]
  rcases h with h | ⟨p, hp, h⟩
  · exact ⟨_, List.mem_append_left _ (List.mem_map.2 ⟨⟨d.val / 128, by omega⟩, mem_l32r _, rfl⟩), mem_tok j n d h⟩
  · exact ⟨p, List.mem_append_right _ hp, h⟩

theorem mem_codePs (TP WP : List (View.Piece (Elt Ideal) S64x4096 .f32)) (old : List (View.Piece (Elt Ideal) S1x256x4096 .fp8e4m3)) (n : Fin 256) (d : Fin 4096)
    (h : n.val / 64 = j.val ∨ ∃ p ∈ old, ix3 (0 : Fin 1) n d ∈ p.1.set) : ∃ p ∈ codePs (rdV x0 x1 x2 x3 x4 x5) sm j TP WP old, ix3 (0 : Fin 1) n d ∈ p.1.set := by
  unfold codePs
  rw [foldr_cons]
  rcases h with h | ⟨p, hp, h⟩
  · exact ⟨_, List.mem_append_left _ (List.mem_map.2 ⟨⟨d.val / 128, by omega⟩, mem_l32r _, rfl⟩), mem_tok j n d h⟩
  · exact ⟨p, List.mem_append_right _ hp, h⟩

end

theorem g0 : Good (smatE i (rdV x0 x1 x2 x3 x4 x5) 0) (sOf i x0 0) := smatE_good i x0 x1 x2 x3 x4 x5 0 0 rfl
theorem g1 : Good (smatO i (rdV x0 x1 x2 x3 x4 x5) 0) (sOf i x0 1) := smatO_good i x0 x1 x2 x3 x4 x5 0 1 rfl
theorem g2 : Good (smatE i (rdV x0 x1 x2 x3 x4 x5) 1) (sOf i x0 2) := smatE_good i x0 x1 x2 x3 x4 x5 1 2 rfl
theorem g3 : Good (smatO i (rdV x0 x1 x2 x3 x4 x5) 1) (sOf i x0 3) := smatO_good i x0 x1 x2 x3 x4 x5 1 3 rfl

/-- The block of the new residual. -/
theorem P6_at (n : Fin 256) (d : Fin 4096) : View.canon (P6 i (rdV x0 x1 x2 x3 x4 x5)) (ix3 0 n d) = kh i x0 x1 x2 x3 x4 n d := by
  have hall : All (fun y : S1x256x4096.Idx => kh i x0 x1 x2 x3 x4 (y 1) (y 2)) (P6 i (rdV x0 x1 x2 x3 x4 x5)) := all_nrPs i x0 x1 x2 x3 x4 x5 3 _ (g3 i x0 x1 x2 x3 x4 x5) (TP2 i (rdV x0 x1 x2 x3 x4 x5))
    (all_nrPs i x0 x1 x2 x3 x4 x5 2 _ (g2 i x0 x1 x2 x3 x4 x5) (TP1 i (rdV x0 x1 x2 x3 x4 x5))
      (all_nrPs i x0 x1 x2 x3 x4 x5 1 _ (g1 i x0 x1 x2 x3 x4 x5) (TP0 i (rdV x0 x1 x2 x3 x4 x5))
        (all_nrPs i x0 x1 x2 x3 x4 x5 0 _ (g0 i x0 x1 x2 x3 x4 x5) [] (All.nil _))))
  refine View.canon_apply_of_pieces (Val := Elt Ideal) (e := .bf16) (fun y : S1x256x4096.Idx => kh i x0 x1 x2 x3 x4 (y 1) (y 2)) (P6 i (rdV x0 x1 x2 x3 x4 x5)) (fun p hp x => hall p hp x) (ix3 0 n d) ?_
  have hn : n.val / 64 = 3 ∨ n.val / 64 = 2 ∨ n.val / 64 = 1 ∨ n.val / 64 = 0 := by omega
  rcases hn with h | h | h | h
  · exact mem_nrPs _ _ _ _ _ _ 3 _ _ _ n d (.inl h)
  · exact mem_nrPs _ _ _ _ _ _ 3 _ _ _ n d (.inr (mem_nrPs _ _ _ _ _ _ 2 _ _ _ n d (.inl h)))
  · exact mem_nrPs _ _ _ _ _ _ 3 _ _ _ n d (.inr (mem_nrPs _ _ _ _ _ _ 2 _ _ _ n d (.inr (mem_nrPs _ _ _ _ _ _ 1 _ _ _ n d (.inl h)))))
  · exact mem_nrPs _ _ _ _ _ _ 3 _ _ _ n d (.inr (mem_nrPs _ _ _ _ _ _ 2 _ _ _ n d (.inr (mem_nrPs _ _ _ _ _ _ 1 _ _ _ n d
      (.inr (mem_nrPs _ _ _ _ _ _ 0 _ _ _ n d (.inl h)))))))

section
variable (hng : ∀ d, ab (x5 (ix2 0 d)) ≤ Ideal.ofBits .f32 0x7F7FFFFF#32)
include hng

/-- The block of the codes. -/
theorem P7_at (n : Fin 256) (d : Fin 4096) : View.canon (P7 i (rdV x0 x1 x2 x3 x4 x5)) (ix3 0 n d) = kcode i x0 x1 x2 x3 x4 x5 n d := by
  have hall : All (fun y : S1x256x4096.Idx => kcode i x0 x1 x2 x3 x4 x5 (y 1) (y 2)) (P7 i (rdV x0 x1 x2 x3 x4 x5)) := all_codePs i x0 x1 x2 x3 x4 x5 3 _ (g3 i x0 x1 x2 x3 x4 x5) hng (TP2 i (rdV x0 x1 x2 x3 x4 x5)) (WP2 i (rdV x0 x1 x2 x3 x4 x5))
    (all_codePs i x0 x1 x2 x3 x4 x5 2 _ (g2 i x0 x1 x2 x3 x4 x5) hng (TP1 i (rdV x0 x1 x2 x3 x4 x5)) (WP1 i (rdV x0 x1 x2 x3 x4 x5))
      (all_codePs i x0 x1 x2 x3 x4 x5 1 _ (g1 i x0 x1 x2 x3 x4 x5) hng (TP0 i (rdV x0 x1 x2 x3 x4 x5)) (WP0 i (rdV x0 x1 x2 x3 x4 x5))
        (all_codePs i x0 x1 x2 x3 x4 x5 0 _ (g0 i x0 x1 x2 x3 x4 x5) hng [] [] (All.nil _))))
  refine View.canon_apply_of_pieces (Val := Elt Ideal) (e := .fp8e4m3) (fun y : S1x256x4096.Idx => kcode i x0 x1 x2 x3 x4 x5 (y 1) (y 2)) (P7 i (rdV x0 x1 x2 x3 x4 x5)) (fun p hp x => hall p hp x) (ix3 0 n d) ?_
  have hn : n.val / 64 = 3 ∨ n.val / 64 = 2 ∨ n.val / 64 = 1 ∨ n.val / 64 = 0 := by omega
  rcases hn with h | h | h | h
  · exact mem_codePs _ _ _ _ _ _ 3 _ _ _ _ n d (.inl h)
  · exact mem_codePs _ _ _ _ _ _ 3 _ _ _ _ n d (.inr (mem_codePs _ _ _ _ _ _ 2 _ _ _ _ n d (.inl h)))
  · exact mem_codePs _ _ _ _ _ _ 3 _ _ _ _ n d (.inr (mem_codePs _ _ _ _ _ _ 2 _ _ _ _ n d (.inr (mem_codePs _ _ _ _ _ _ 1 _ _ _ _ n d (.inl h)))))
  · exact mem_codePs _ _ _ _ _ _ 3 _ _ _ _ n d (.inr (mem_codePs _ _ _ _ _ _ 2 _ _ _ _ n d (.inr (mem_codePs _ _ _ _ _ _ 1 _ _ _ _ n d
      (.inr (mem_codePs _ _ _ _ _ _ 0 _ _ _ _ n d (.inl h)))))))

theorem pow2_e (j : Fin 4) (sm : FVec Ideal S64x256 .bf16) (hs : Good sm (sOf i x0 j)) (old : List (View.Piece (Elt Ideal) S64x4096 .f32)) (ρ : Fin 64) (l : Fin 128) :
    Row.pow2W (eC (rdV x0 x1 x2 x3 x4 x5) sm j (tPs (rdV x0 x1 x2 x3 x4 x5) sm j old) (ix2 ρ l)) = kscale i x0 x1 x2 x3 x4 x5 (tok j ρ) := by
  rw [eC_at i x0 x1 x2 x3 x4 x5 j sm hs]
  exact Row.scale_row _ _ hng

theorem ysL_at (o : Vec Ideal S8x128 .f32) (q : Fin 8) (l : Fin 128) :
    ysOf i (e0 i (rdV x0 x1 x2 x3 x4 x5)) (e1 i (rdV x0 x1 x2 x3 x4 x5)) o (ix2 q l) = if q = bi i then kscale i x0 x1 x2 x3 x4 x5 ⟨l.val, by omega⟩ else o (ix2 q l) := by
  rw [ysOf_at]
  refine if_congr Iff.rfl ?_ rfl
  split
  · exact (pow2_e i x0 x1 x2 x3 x4 x5 hng 0 _ (g0 i x0 x1 x2 x3 x4 x5) [] _ l).trans (congrArg _ (Fin.ext (by simp [tok])))
  · exact (pow2_e i x0 x1 x2 x3 x4 x5 hng 1 _ (g1 i x0 x1 x2 x3 x4 x5) (TP0 i (rdV x0 x1 x2 x3 x4 x5)) _ l).trans (congrArg _ (Fin.ext (by simp [tok]; omega)))

theorem ysR_at (o : Vec Ideal S8x128 .f32) (q : Fin 8) (l : Fin 128) :
    ysOf i (e2 i (rdV x0 x1 x2 x3 x4 x5)) (e3 i (rdV x0 x1 x2 x3 x4 x5)) o (ix2 q l) = if q = bi i then kscale i x0 x1 x2 x3 x4 x5 ⟨128 + l.val, by omega⟩ else o (ix2 q l) := by
  rw [ysOf_at]
  refine if_congr Iff.rfl ?_ rfl
  split
  · exact (pow2_e i x0 x1 x2 x3 x4 x5 hng 2 _ (g2 i x0 x1 x2 x3 x4 x5) (TP1 i (rdV x0 x1 x2 x3 x4 x5)) _ l).trans (congrArg _ (Fin.ext (by simp [tok])))
  · exact (pow2_e i x0 x1 x2 x3 x4 x5 hng 3 _ (g3 i x0 x1 x2 x3 x4 x5) (TP2 i (rdV x0 x1 x2 x3 x4 x5)) _ l).trans (congrArg _ (Fin.ext (by simp [tok]; omega)))

omit hng in
theorem emb_hL (q : Fin 8) (l : Fin 128) : hL.emb (ix2 q l) = ix2 q (⟨l.val, by omega⟩ : Fin 256) := by
  funext a
  apply Fin.ext
  fin_cases a <;> blk_simp <;> rfl
omit hng in
theorem emb_hR (q : Fin 8) (l : Fin 128) : hR.emb (ix2 q l) = ix2 q (⟨128 + l.val, by omega⟩ : Fin 256) := by
  funext a
  apply Fin.ext
  fin_cases a <;> blk_simp <;> rfl

omit hng in
/-- A block stored half by half. -/
theorem halves_at (a b : Vec Ideal S8x128 .f32) (old : List (View.Piece (Elt Ideal) S8x256 .f32)) (q : Fin 8) (n : Fin 256) :
    View.canon (⟨hR, b⟩ :: ⟨hL, a⟩ :: old : List (View.Piece (Elt Ideal) S8x256 .f32)) (ix2 q n)
      = if h : n.val < 128 then a (ix2 q ⟨n.val, h⟩) else b (ix2 q ⟨n.val - 128, by omega⟩) := by
  by_cases h : n.val < 128
  · have hm : ix2 q n ∉ hR.set := by
      rw [Rect.mem_set_unit]
      intro hh
      have := hh 1
      simp at this
      omega
    rw [dif_pos h]
    refine (View.canon_cons_of_not_mem (Val := Elt Ideal) (e := .f32) ⟨hR, b⟩ (⟨hL, a⟩ :: old) hm).trans ?_
    have he : ix2 q n = hL.emb (ix2 q (⟨n.val, h⟩ : Fin 128)) := (emb_hL q ⟨n.val, h⟩).symm
    exact (congrArg (View.canon (Val := Elt Ideal) (e := .f32) (⟨hL, a⟩ :: old)) he).trans (View.canon_cons_emb (Val := Elt Ideal) (e := .f32) hL a old _)
  · have he : ix2 q n = hR.emb (ix2 q (⟨n.val - 128, by omega⟩ : Fin 128)) := by
      rw [emb_hR]; congr 1; apply Fin.ext; simp only; omega
    rw [dif_neg h]
    exact (congrArg (View.canon (Val := Elt Ideal) (e := .f32) (⟨hR, b⟩ :: ⟨hL, a⟩ :: old)) he).trans (View.canon_cons_emb (Val := Elt Ideal) (e := .f32) hR b _ _)

/-- The block of the scales, over what it finds: this batch element's row. -/
theorem P8_at (o0 o1 : Vec Ideal S8x128 .f32) (old : List (View.Piece (Elt Ideal) S8x256 .f32)) (q : Fin 8) (n : Fin 256) :
    View.canon (P8 i (rdV x0 x1 x2 x3 x4 x5) o0 o1 old) (ix2 q n) = if q = bi i then kscale i x0 x1 x2 x3 x4 x5 n
      else if h : n.val < 128 then o0 (ix2 q ⟨n.val, h⟩) else o1 (ix2 q ⟨n.val - 128, by omega⟩) := by
  unfold P8
  rw [halves_at]
  by_cases h : n.val < 128
  · rw [dif_pos h, dif_pos h]
    exact ysL_at i x0 x1 x2 x3 x4 x5 hng o0 q ⟨n.val, h⟩
  · rw [dif_neg h, dif_neg h]
    refine (ysR_at i x0 x1 x2 x3 x4 x5 hng o1 q ⟨n.val - 128, by omega⟩).trans ?_
    have : (⟨128 + (n.val - 128), by omega⟩ : Fin 256) = n := Fin.ext (by simp only; omega)
    simp only [this]

theorem P8A_at (q : Fin 8) (n : Fin 256) (h : q = bi i) : View.canon (P8A i (rdV x0 x1 x2 x3 x4 x5)) (ix2 q n) = kscale i x0 x1 x2 x3 x4 x5 n := by
  unfold P8A
  rw [P8_at i x0 x1 x2 x3 x4 x5 hng, if_pos h]

theorem P8B_at (xo : Vec Ideal S8x256 .f32) (q : Fin 8) (n : Fin 256) :
    View.canon (P8B i (rdV x0 x1 x2 x3 x4 x5) xo) (ix2 q n) = if q = bi i then kscale i x0 x1 x2 x3 x4 x5 n else xo (ix2 q n) := by
  unfold P8B
  rw [P8_at i x0 x1 x2 x3 x4 x5 hng]
  refine if_congr Iff.rfl rfl ?_
  split
  · exact congrArg xo (emb_hL _ _)
  · refine congrArg xo ((emb_hR _ _).trans ?_)
    congr 1; apply Fin.ext; simp only; omega

end

end Cert.KernelIdeal.Blk

end
-- ==== Proof.Whole.lean ====
/- The rows of the whole problem: row (b, s) of the argument arrays, and the three results index by index. -/
module

public import proofs.«01_k».proof.Proof.Spec

@[expose] public section

noncomputable section

namespace Cert.Row

open Idealize.ShloMosaic

section

variable (a0 : (⟨4, ![4, 8, 2048, 4096]⟩ : Shape).Idx → EReal) (a1 : (⟨3, ![4, 8, 2048]⟩ : Shape).Idx → EReal)
  (a2 a3 : (⟨1, ![4096]⟩ : Shape).Idx → EReal) (a4 : (⟨3, ![8, 2048, 4096]⟩ : Shape).Idx → EReal) (a5 : (⟨1, ![4096]⟩ : Shape).Idx → EReal)

/-- Row (b, s): the dequantised sum, the new residual, the normalised row, the scale. -/
def wt (b : Fin 8) (s : Fin 2048) : Feat := tRow (fun p d => a0 (ix4 p b s d)) (fun p => a1 (ix3 p b s)) (fun d => a2 (ix1 d))
def wh (b : Fin 8) (s : Fin 2048) : Feat := hRow (fun d => a4 (ix3 b s d)) (wt a0 a1 a2 b s) (fun d => a3 (ix1 d))
def wy (b : Fin 8) (s : Fin 2048) : Feat := norm (wh a0 a1 a2 a3 a4 b s) (fun d => a5 (ix1 d))
def wscale (b : Fin 8) (s : Fin 2048) : EReal := scale (vRow (wy a0 a1 a2 a3 a4 a5 b s))

/-- The three results. -/
def R0 : (⟨3, ![8, 2048, 4096]⟩ : Shape).Idx → EReal := fun y => wh a0 a1 a2 a3 a4 (y 0) (y 1) (y 2)
def R1 : (⟨3, ![8, 2048, 4096]⟩ : Shape).Idx → EReal :=
  fun y => code (wy a0 a1 a2 a3 a4 a5 (y 0) (y 1) (y 2)) (wscale a0 a1 a2 a3 a4 a5 (y 0) (y 1))
def R2 : (⟨2, ![8, 2048]⟩ : Shape).Idx → EReal := fun y => wscale a0 a1 a2 a3 a4 a5 (y 0) (y 1)

end

end Cert.Row

end
-- ==== Proof.Blocks.lean ====
/- What the kernel's blocks hold: each input block read as its argument array, and so the block's rows as the problem's
   rows (b, 256·s + n) at grid point t = 8·s + b. -/
module

public import proofs.«01_k».proof.Proof.Point
public import proofs.«01_k».proof.Proof.Whole

@[expose] public section

set_option maxRecDepth 16384

noncomputable section

namespace Cert.KernelIdeal.Blk

open Cert.KernelIdeal Cert.KernelIdeal.Gen Idealize.ShloMosaic Idealize.ShloMosaic.TcCoe Idealize.SL.Sem
open Cert.Row (ab)

variable (m : (ℓ : Loc nD τ sig) → Buf (Elt Ideal) ℓ) (c : Dev nD)

theorem idx : ∀ t : Fin cfg0.N, win0_0.index t = ![0, 0, t.val / 8] ∧ win0_1.index t = ![0, t.val % 8, t.val / 8, 0]
    ∧ win0_2.index t = ![t.val % 8, t.val / 8, 0] ∧ win0_3.index t = ![0, 0] ∧ win0_4.index t = ![0, 0] ∧ win0_5.index t = ![0, 0]
    ∧ win0_6.index t = ![t.val % 8, t.val / 8, 0] ∧ win0_7.index t = ![t.val % 8, t.val / 8, 0] ∧ win0_8.index t = ![0, t.val / 8] :=
  (by decide +kernel : ∀ t : Fin grid0.N, _)

theorem coord1 : ∀ t : Fin cfg0.N, (grid0.coords t 1).val = t.val % 8 :=
  (by decide +kernel : ∀ t : Fin grid0.N, _)

theorem lt64 (t : Fin cfg0.N) : t.val < 64 := t.isLt

/-- The batch element and the token of row `n` of point `t`'s block. -/
abbrev bOf (t : Fin cfg0.N) : Fin 8 := ⟨t.val % 8, by omega⟩
abbrev sIx (t : Fin cfg0.N) (n : Fin 256) : Fin 2048 := ⟨256 * (t.val / 8) + n.val, by have := lt64 t; omega⟩

theorem bi_coords (t : Fin cfg0.N) : bi (grid0.coords t) = bOf t := Fin.ext (coord1 t)

theorem rd0 (t : Fin cfg0.N) (p : Fin 4) (q : Fin 8) (n : Fin 256) :
    iblk m c 0 t (ix3 p q n) = m ((c.tc : Thread nD τ).loc main_arg1) (ix3 p q (sIx t n)) := by
  blk_ext [iblk, V, idx t]

theorem rd1 (t : Fin cfg0.N) (p : Fin 4) (n : Fin 256) (d : Fin 4096) :
    iblk m c 1 t (ix4 p 0 n d) = m ((c.tc : Thread nD τ).loc main_arg0) (ix4 p (bOf t) (sIx t n) d) := by
  blk_ext [iblk, V, idx t]

theorem rd2 (t : Fin cfg0.N) (n : Fin 256) (d : Fin 4096) :
    iblk m c 2 t (ix3 0 n d) = m ((c.tc : Thread nD τ).loc main_arg4) (ix3 (bOf t) (sIx t n) d) := by
  blk_ext [iblk, V, idx t]

theorem rd3 (t : Fin cfg0.N) (d : Fin 4096) :
    iblk m c 3 t (ix2 0 d) = m ((c.tc : Thread nD τ).loc main_arg2) (ix1 d) := by
  blk_simp [iblk]
  entry_read
  pointwise
  blk_ext [idx t]

theorem rd4 (t : Fin cfg0.N) (d : Fin 4096) :
    iblk m c 4 t (ix2 0 d) = m ((c.tc : Thread nD τ).loc main_arg3) (ix1 d) := by
  blk_simp [iblk]
  entry_read
  pointwise
  blk_ext [idx t]

theorem rd5 (t : Fin cfg0.N) (d : Fin 4096) :
    iblk m c 5 t (ix2 0 d) = m ((c.tc : Thread nD τ).loc main_arg5) (ix1 d) := by
  blk_simp [iblk]
  entry_read
  pointwise
  blk_ext [idx t]

end Cert.KernelIdeal.Blk

end
-- ==== Proof.Results.lean ====
/- The kernel's three result arrays, index by index: the problem's rows of the argument arrays. -/
module

public import proofs.«01_k».proof.Proof.Blocks
public import proofs.«01_k».proof.Proof.Gen.KernelIdeal.Value

@[expose] public section

set_option maxRecDepth 16384

noncomputable section

namespace Cert.KernelIdeal.Blk

open Cert.KernelIdeal Cert.KernelIdeal.Gen Idealize.ShloMosaic Idealize.ShloMosaic.TcCoe Idealize.SL.Sem
open Idealize.ShloMosaic.Pipeline (Dat)
open Cert.Row (ab)

variable (m : (ℓ : Loc nD τ sig) → Buf (Elt Ideal) ℓ) (c : Dev nD)

/-- The argument arrays. -/
abbrev A0 : Vec Ideal S4x8x2048x4096 .fp8e4m3 := m ((c.tc : Thread nD τ).loc main_arg0)
abbrev A1 : Vec Ideal S4x8x2048 .f32 := m ((c.tc : Thread nD τ).loc main_arg1)
abbrev A2 : Vec Ideal S4096 .f32 := m ((c.tc : Thread nD τ).loc main_arg2)
abbrev A3 : Vec Ideal S4096 .f32 := m ((c.tc : Thread nD τ).loc main_arg3)
abbrev A4 : Vec Ideal S8x2048x4096 .bf16 := m ((c.tc : Thread nD τ).loc main_arg4)
abbrev A5 : Vec Ideal S4096 .f32 := m ((c.tc : Thread nD τ).loc main_arg5)

/-- The block's rows are the problem's. -/
theorem kt_eq (t : Fin cfg0.N) (n : Fin 256) :
    kt (grid0.coords t) (iblk m c 0 t) (iblk m c 1 t) (iblk m c 3 t) n = Row.wt (A0 m c) (A1 m c) (A2 m c) (bOf t) (sIx t n) := by
  unfold kt Row.wt
  rw [bi_coords]
  congr 1
  · funext p d; exact rd1 m c t p n d
  · funext p; exact rd0 m c t p _ n
  · funext d; exact rd3 m c t d

theorem kh_eq (t : Fin cfg0.N) (n : Fin 256) :
    kh (grid0.coords t) (iblk m c 0 t) (iblk m c 1 t) (iblk m c 2 t) (iblk m c 3 t) (iblk m c 4 t) n
      = Row.wh (A0 m c) (A1 m c) (A2 m c) (A3 m c) (A4 m c) (bOf t) (sIx t n) := by
  unfold kh Row.wh
  rw [kt_eq]
  congr 1
  · funext d; exact rd2 m c t n d
  · funext d; exact rd4 m c t d

theorem ky_eq (t : Fin cfg0.N) (n : Fin 256) :
    ky (grid0.coords t) (iblk m c 0 t) (iblk m c 1 t) (iblk m c 2 t) (iblk m c 3 t) (iblk m c 4 t) (iblk m c 5 t) n
      = Row.wy (A0 m c) (A1 m c) (A2 m c) (A3 m c) (A4 m c) (A5 m c) (bOf t) (sIx t n) := by
  unfold ky Row.wy
  rw [kh_eq]
  congr 1
  funext d; exact rd5 m c t d

theorem kscale_eq (t : Fin cfg0.N) (n : Fin 256) :
    kscale (grid0.coords t) (iblk m c 0 t) (iblk m c 1 t) (iblk m c 2 t) (iblk m c 3 t) (iblk m c 4 t) (iblk m c 5 t) n
      = Row.wscale (A0 m c) (A1 m c) (A2 m c) (A3 m c) (A4 m c) (A5 m c) (bOf t) (sIx t n) := by
  unfold kscale Row.wscale
  rw [ky_eq]

/-- The new residual's block at any point. -/
theorem outs6 (t : Fin cfg0.N) (n : Fin 256) (d : Fin 4096) :
    (outsAt0 m c t.val t.isLt).1 (ix3 0 n d) = Row.wh (A0 m c) (A1 m c) (A2 m c) (A3 m c) (A4 m c) (bOf t) (sIx t n) d := by
  have e : (outsAt0 m c t.val t.isLt).1 = View.canon (P6 (grid0.coords t) (rdV (iblk m c 0 t) (iblk m c 1 t) (iblk m c 2 t) (iblk m c 3 t) (iblk m c 4 t) (iblk m c 5 t))) := by
    by_cases h0 : t.val % 8 = 0
    · rw [outsAt0_A m c t h0]; dsimp only; rw [outA_6]
    · rw [outsAt0_B m c t h0]; dsimp only; rw [outB_6]
  rw [e, P6_at, kh_eq]

section

variable (hng : ∀ d, ab (A5 m c (ix1 d)) ≤ Ideal.ofBits .f32 0x7F7FFFFF#32)
include hng

theorem hng_blk (t : Fin cfg0.N) : ∀ d, ab (iblk m c 5 t (ix2 0 d)) ≤ Ideal.ofBits .f32 0x7F7FFFFF#32 := by
  intro d
  rw [rd5]
  exact hng d

/-- The codes' block at any point. -/
theorem outs7 (t : Fin cfg0.N) (n : Fin 256) (d : Fin 4096) :
    (outsAt0 m c t.val t.isLt).2.1 (ix3 0 n d)
      = Row.code (Row.wy (A0 m c) (A1 m c) (A2 m c) (A3 m c) (A4 m c) (A5 m c) (bOf t) (sIx t n) d)
          (Row.wscale (A0 m c) (A1 m c) (A2 m c) (A3 m c) (A4 m c) (A5 m c) (bOf t) (sIx t n)) := by
  have e : (outsAt0 m c t.val t.isLt).2.1 = View.canon (P7 (grid0.coords t) (rdV (iblk m c 0 t) (iblk m c 1 t) (iblk m c 2 t) (iblk m c 3 t) (iblk m c 4 t) (iblk m c 5 t))) := by
    by_cases h0 : t.val % 8 = 0
    · rw [outsAt0_A m c t h0]; dsimp only; rw [outA_7]
    · rw [outsAt0_B m c t h0]; dsimp only; rw [outB_7]
  rw [e, P7_at _ _ _ _ _ _ _ (hng_blk m c hng t)]
  unfold kcode
  rw [kscale_eq, ky_eq]

/-- One point's step on the scales' block. -/
theorem outs8_A (t : Fin cfg0.N) (h0 : t.val % 8 = 0) (q : Fin 8) (n : Fin 256) (hq : q = bOf t) :
    (outsAt0 m c t.val t.isLt).2.2 (ix2 q n)
      = Row.wscale (A0 m c) (A1 m c) (A2 m c) (A3 m c) (A4 m c) (A5 m c) (bOf t) (sIx t n) := by
  rw [outsAt0_A m c t h0]; dsimp only
  rw [outA_8, P8A_at _ _ _ _ _ _ _ (hng_blk m c hng t) q n (hq.trans (bi_coords t).symm), kscale_eq]

theorem outs8_B (t : Fin cfg0.N) (h0 : ¬ t.val % 8 = 0) (q : Fin 8) (n : Fin 256) :
    (outsAt0 m c t.val t.isLt).2.2 (ix2 q n) = if q = bOf t
      then Row.wscale (A0 m c) (A1 m c) (A2 m c) (A3 m c) (A4 m c) (A5 m c) (bOf t) (sIx t n)
      else (outsAt0 m c (t.val - 1) (Nat.lt_of_le_of_lt (Nat.sub_le _ _) t.isLt)).2.2 (ix2 q n) := by
  rw [outsAt0_B m c t h0]; dsimp only
  rw [outB_8, P8B_at _ _ _ _ _ _ _ (hng_blk m c hng t), bi_coords, kscale_eq]

/-- After point `n` the block holds the scales of every batch element up to this point's. -/
theorem outs8 (k : ℕ) : ∀ (hk : k < cfg0.N) (q : Fin 8) (n : Fin 256), q.val ≤ k % 8 →
    (outsAt0 m c k hk).2.2 (ix2 q n)
      = Row.wscale (A0 m c) (A1 m c) (A2 m c) (A3 m c) (A4 m c) (A5 m c) q (sIx ⟨k, hk⟩ n) := by
  induction k with
  | zero =>
    intro hk q n hq
    have hq' : q = bOf ⟨0, hk⟩ := Fin.ext (by simpa using hq)
    rw [outs8_A m c hng ⟨0, hk⟩ rfl q n hq', ← hq']
  | succ k ih =>
    intro hk q n hq
    by_cases h0 : (k + 1) % 8 = 0
    · have hq' : q = bOf ⟨k + 1, hk⟩ := Fin.ext (by simp only; omega)
      rw [outs8_A m c hng ⟨k + 1, hk⟩ h0 q n hq', ← hq']
    · rw [outs8_B m c hng ⟨k + 1, hk⟩ h0 q n]
      split
      · rename_i e; rw [← e]
      · rename_i e
        have hne : q.val ≠ (k + 1) % 8 := fun h => e (Fin.ext h)
        refine (ih (Nat.lt_of_succ_lt hk) q n (by omega)).trans ?_
        congr 1
        apply Fin.ext
        simp only
        omega

end

/-- The same at a block index and the array index it sits at. -/
theorem outs6_at (t : Fin cfg0.N) (y : S1x256x4096.Idx) (j : S8x2048x4096.Idx) (h0 : (j 0).val = t.val % 8)
    (h1 : (j 1).val = 256 * (t.val / 8) + (y 1).val) (h2 : (j 2).val = (y 2).val) :
    (outsAt0 m c t.val t.isLt).1 y = Row.R0 (A0 m c) (A1 m c) (A2 m c) (A3 m c) (A4 m c) j := by
  have e0 : y 0 = (0 : Fin 1) := Fin.ext (by simp)
  rw [eq_ix3 y, e0]
  refine (outs6 m c t (y 1) (y 2)).trans ?_
  unfold Row.R0
  rw [show j 0 = bOf t from Fin.ext h0, show j 1 = sIx t (y 1) from Fin.ext h1, show j 2 = y 2 from Fin.ext h2]

theorem outs7_at (hng : ∀ d, ab (A5 m c (ix1 d)) ≤ Ideal.ofBits .f32 0x7F7FFFFF#32) (t : Fin cfg0.N) (y : S1x256x4096.Idx)
    (j : S8x2048x4096.Idx) (h0 : (j 0).val = t.val % 8) (h1 : (j 1).val = 256 * (t.val / 8) + (y 1).val) (h2 : (j 2).val = (y 2).val) :
    (outsAt0 m c t.val t.isLt).2.1 y = Row.R1 (A0 m c) (A1 m c) (A2 m c) (A3 m c) (A4 m c) (A5 m c) j := by
  have e0 : y 0 = (0 : Fin 1) := Fin.ext (by simp)
  rw [eq_ix3 y, e0]
  refine (outs7 m c hng t (y 1) (y 2)).trans ?_
  unfold Row.R1
  rw [show j 0 = bOf t from Fin.ext h0, show j 1 = sIx t (y 1) from Fin.ext h1, show j 2 = y 2 from Fin.ext h2]

theorem outs8_at (hng : ∀ d, ab (A5 m c (ix1 d)) ≤ Ideal.ofBits .f32 0x7F7FFFFF#32) (t : Fin cfg0.N) (hf : t.val % 8 = 7) (y : S8x256.Idx)
    (j : S8x2048.Idx) (h0 : (j 0).val = (y 0).val) (h1 : (j 1).val = 256 * (t.val / 8) + (y 1).val) :
    (outsAt0 m c t.val t.isLt).2.2 y = Row.R2 (A0 m c) (A1 m c) (A2 m c) (A3 m c) (A4 m c) (A5 m c) j := by
  rw [eq_ix2 y]
  refine (outs8 m c hng t.val t.isLt (y 0) (y 1) (by have : (y 0).val < 8 := (y 0).isLt; omega)).trans ?_
  unfold Row.R2
  rw [show j 0 = y 0 from Fin.ext h0, show j 1 = sIx t (y 1) from Fin.ext h1]

/-- THE NEW RESIDUAL. -/
theorem final6 : (dats m 0 c).arrAt 6 cfg0.N = (Row.R0 (A0 m c) (A1 m c) (A2 m c) (A3 m c) (A4 m c) : Vec Ideal S8x2048x4096 .bf16) := by
  refine (dats m 0 c).arrAt_eq_of_covers 6 _ (by decide +kernel) fun t _ y => ?_
  blk_simp
  rw [after0_6]
  refine outs6_at m c t y _ ?_ ?_ ?_ <;> blk_simp [idx t] <;> omega

/-- THE CODES. -/
theorem final7 (hng : ∀ d, ab (A5 m c (ix1 d)) ≤ Ideal.ofBits .f32 0x7F7FFFFF#32) :
    (dats m 0 c).arrAt 7 cfg0.N = (Row.R1 (A0 m c) (A1 m c) (A2 m c) (A3 m c) (A4 m c) (A5 m c) : Vec Ideal S8x2048x4096 .fp8e4m3) := by
  refine (dats m 0 c).arrAt_eq_of_covers 7 _ (by decide +kernel) fun t _ y => ?_
  blk_simp
  rw [after0_7]
  refine outs7_at m c hng t y _ ?_ ?_ ?_ <;> blk_simp [idx t] <;> omega

/-- THE SCALES. -/
theorem final8 (hng : ∀ d, ab (A5 m c (ix1 d)) ≤ Ideal.ofBits .f32 0x7F7FFFFF#32) :
    (dats m 0 c).arrAt 8 cfg0.N = (Row.R2 (A0 m c) (A1 m c) (A2 m c) (A3 m c) (A4 m c) (A5 m c) : Vec Ideal S8x2048 .f32) := by
  refine (dats m 0 c).arrAt_eq_of_covers 8 _ (by decide +kernel) fun t hf y => ?_
  blk_simp
  rw [after0_8]
  refine outs8_at m c hng t ((flush0_8 t).mp hf) y _ ?_ ?_ <;> blk_simp [idx t] <;> omega

end Cert.KernelIdeal.Blk

end
-- ==== Proof.Refer.lean ====
/- The reference's three result arrays, index by index: the problem's rows of the argument arrays. -/
module

public import proofs.«01_k».proof.Proof.Whole
public import proofs.«01_k».proof.Proof.Gen.ReferenceIdeal.Value

@[expose] public section

set_option maxRecDepth 16384

noncomputable section

namespace Cert.ReferenceIdeal.Whole

open Cert.ReferenceIdeal Cert.ReferenceIdeal.Gen Idealize.ShloMosaic Idealize.SL.Sem
open Cert.Row

variable (a0 : Vec Ideal S4x8x2048x4096 .fp8e4m3) (a1 : Vec Ideal S4x8x2048 .f32) (a2 a3 : Vec Ideal S4096 .f32)
  (a4 : Vec Ideal S8x2048x4096 .bf16) (a5 : Vec Ideal S4096 .f32)

/-! The dequantised sum's parts. -/

theorem p10 (b : Fin 8) (s : Fin 2048) (d : Fin 4096) : k0_pay10 (F := Ideal) a0 a1 a2 a3 a4 a5 (ix3 b s d)
    = a0 (ix4 0 b s d) * a1 (ix3 0 b s) + a0 (ix4 1 b s d) * a1 (ix3 1 b s) + a0 (ix4 2 b s d) * a1 (ix3 2 b s) := by
  pointwise [k0_pay10, k0_pay4]

theorem p11 (b : Fin 8) (s : Fin 2048) (d : Fin 4096) : k0_pay11 (F := Ideal) a0 a1 a2 a3 a4 a5 (ix3 b s d) = a0 (ix4 3 b s d) := by
  pointwise [k0_pay11, k0_pay5]

theorem p12 (b : Fin 8) (s : Fin 2048) : k0_pay12 (F := Ideal) a0 a1 a2 a3 a4 a5 (ix3 b s 0) = a1 (ix3 3 b s) := by
  pointwise [k0_pay12, k0_pay6]

section

variable (v25 v28 : FVec Ideal S8x2048x4096 .f32) (v31 : FVec Ideal S8x2048x1 .f32)

def ut (b : Fin 8) (s : Fin 2048) : Feat := fun d => v25 (ix3 b s d) + v28 (ix3 b s d) * v31 (ix3 b s 0) + a2 (ix1 d)
def uh (b : Fin 8) (s : Fin 2048) : Feat := hRow (fun d => a4 (ix3 b s d)) (ut a2 v25 v28 v31 b s) (fun d => a3 (ix1 d))

theorem p7 (b : Fin 8) (s : Fin 2048) (d : Fin 4096) :
    k0_pay7 (F := Ideal) v25 v28 v31 a2 a4 a3 (ix3 b s d) = uh a2 a3 a4 v25 v28 v31 b s d := by
  pointwise [k0_pay7]
  rfl

theorem p8 (b : Fin 8) (s : Fin 2048) (d : Fin 4096) :
    k0_pay8 (F := Ideal) v25 v28 v31 a2 a4 a3 a5 (ix3 b s d) = norm (uh a2 a3 a4 v25 v28 v31 b s) (fun d => a5 (ix1 d)) d := by
  pointwise [k0_pay8]
  simp only [p7]
  rfl

theorem p9 (b : Fin 8) (s : Fin 2048) :
    k0_pay9 (F := Ideal) v25 v28 v31 a2 a4 a3 a5 (ix2 b s) * Ideal.ofBits .f32 0x3B124925#32 = vRow (norm (uh a2 a3 a4 v25 v28 v31 b s) (fun d => a5 (ix1 d))) := by
  pointwise [k0_pay9]
  simp only [p8]
  rfl

end

theorem p3 (v : FVec Ideal S8x2048 .f32) (b : Fin 8) (s : Fin 2048) :
    k0_pay3 (F := Ideal) v (ix2 b s) = scale (v (ix2 b s) * Ideal.ofBits .f32 0x3B124925#32) := by
  pointwise [k0_pay3, k0_pay1]
  rfl

theorem p2 (y : FVec Ideal S8x2048x4096 .f32) (v : FVec Ideal S8x2048 .f32) (b : Fin 8) (s : Fin 2048) (d : Fin 4096) :
    k0_pay2 (F := Ideal) y v (ix3 b s d) = code (y (ix3 b s d)) (scale (v (ix2 b s) * Ideal.ofBits .f32 0x3B124925#32)) := by
  pointwise [k0_pay2, k0_pay1]
  rfl

/-! The rows. -/

theorem uh_eq (b : Fin 8) (s : Fin 2048) :
    uh a2 a3 a4 (k0_pay10 (F := Ideal) a0 a1 a2 a3 a4 a5) (k0_pay11 (F := Ideal) a0 a1 a2 a3 a4 a5) (k0_pay12 (F := Ideal) a0 a1 a2 a3 a4 a5) b s
      = wh a0 a1 a2 a3 a4 b s := by
  unfold uh wh
  congr 1
  funext d
  unfold ut
  rw [p10, p11, p12]
  rfl

theorem ld_row (x : Vec Ideal S4096 .f32) : View.ld x r0_8 = x :=
  View.ld_unit_zero (S := S4096) (by funext a; fin_cases a; rfl) _ x

theorem ld_x (x : Vec Ideal S8x2048x4096 .bf16) : View.ld x r0_9 = x :=
  View.ld_unit_zero (S := S8x2048x4096) (by funext a; fin_cases a <;> rfl) _ x

theorem p13 (b : Fin 8) (s : Fin 2048) :
    scale (k0_pay13 (F := Ideal) a0 a1 a2 a3 a4 a5 (ix2 b s) * Ideal.ofBits .f32 0x3B124925#32) = wscale a0 a1 a2 a3 a4 a5 b s := by
  unfold k0_pay13
  rw [ld_row, ld_row, ld_row, ld_x]
  rw [p9, uh_eq]
  rfl

theorem G6_eq : Value.G6 (F := Ideal) a0 a1 a2 a3 a4 a5 = R0 a0 a1 a2 a3 a4 := by
  funext y
  obtain ⟨b, s, d, rfl⟩ : ∃ (b : Fin 8) (s : Fin 2048) (d : Fin 4096), y = ix3 b s d := ⟨y 0, y 1, y 2, eq_ix3 y⟩
  unfold Value.G6
  rw [p7, uh_eq]
  rfl

theorem G7_eq : Value.G7 (F := Ideal) a0 a1 a2 a3 a4 a5 = R1 a0 a1 a2 a3 a4 a5 := by
  funext y
  obtain ⟨b, s, d, rfl⟩ : ∃ (b : Fin 8) (s : Fin 2048) (d : Fin 4096), y = ix3 b s d := ⟨y 0, y 1, y 2, eq_ix3 y⟩
  unfold Value.G7
  rw [p2, p13, p8, uh_eq]
  rfl

theorem G8_eq : Value.G8 (F := Ideal) a0 a1 a2 a3 a4 a5 = R2 a0 a1 a2 a3 a4 a5 := by
  funext y
  obtain ⟨b, s, rfl⟩ : ∃ (b : Fin 8) (s : Fin 2048), y = ix2 b s := ⟨y 0, y 1, eq_ix2 y⟩
  unfold Value.G8
  rw [p3, p13]
  rfl

end Cert.ReferenceIdeal.Whole

end
-- ==== Proof.Gain.lean ====
/- What the precondition says: every entry of the last gain is at most the greatest finite f32 in magnitude. -/
module

public import proofs.«01_k».proof.Proof.RowMath
public import proofs.«01_k».proof.Proof.Gen.Pre_gain_is_finite

@[expose] public section

set_option maxRecDepth 16384

noncomputable section

namespace Cert.Pre_gain_is_finite

open Idealize.ShloMosaic
open Cert.Row (ab)

/-- A conjunction of bits that is one is of bits that are one. -/
theorem of_and (n : ℕ) (p : Fin n → Prop) [∀ k, Decidable (p k)]
    (h : Finset.univ.fold IntOp.andi (1#1) (fun k => BitVec.ofBool (decide (p k))) = 1#1) (d : Fin n) : p d := by
  have hs : ∀ s : Finset (Fin n), s.fold IntOp.andi (1#1) (fun k => BitVec.ofBool (decide (p k))) = 1#1 → ∀ k ∈ s, p k := by
    intro s
    induction s using Finset.induction_on with
    | empty => intro _ k hk; simp at hk
    | insert a s ha ih =>
      intro h k hk
      rw [Finset.fold_insert ha] at h
      have hb : ∀ x y : BitVec 1, IntOp.andi x y = 1#1 → x = 1#1 ∧ y = 1#1 := by decide
      obtain ⟨h1, h2⟩ := hb _ _ h
      rcases Finset.mem_insert.mp hk with rfl | hk
      · by_contra hp
        simp [hp] at h1
      · exact ih h2 k hk
  exact hs Finset.univ h d (Finset.mem_univ d)

theorem gain (a0 : Vec Ideal S4x8x2048x4096 .fp8e4m3) (a1 : Vec Ideal S4x8x2048 .f32) (a2 a3 : Vec Ideal S4096 .f32)
    (a4 : Vec Ideal S8x2048x4096 .bf16) (a5 : Vec Ideal S4096 .f32)
    (h : (fn (F := Ideal) a0 a1 a2 a3 a4 a5) = fun _ => 1#1) (d : Fin 4096) : ab (a5 (ix1 d)) ≤ Ideal.ofBits .f32 0x7F7FFFFF#32 := by
  have h' := congrFun h ix0
  revert h'
  pointwise [fn]
  intro h'
  exact of_and _ _ h' d

end Cert.Pre_gain_is_finite

end
-- ==== Proof.Algebraic.lean ====
/- Kernel and reference, run from the same arguments, end with the same three results. -/
module

public import proofs.«01_k».proof.Defs
public import proofs.«01_k».proof.Proof.Results
public import proofs.«01_k».proof.Proof.Refer
public import proofs.«01_k».proof.Proof.Gain
public import Idealize.ShloMosaic.Lib.Claim

@[expose] public section

set_option maxRecDepth 16384

noncomputable section

namespace Cert.Proof

open Idealize.ShloMosaic Idealize.SL.Sem

/-- The three results of the kernel's arguments. -/
abbrev V0 (m : (ℓ : Loc Cert.KernelIdeal.nD Cert.KernelIdeal.τ Cert.KernelIdeal.sig) → Buf (Elt Ideal) ℓ) (c : Dev Cert.KernelIdeal.nD) :
    Vec Ideal Cert.KernelIdeal.S8x2048x4096 .bf16 :=
  Row.R0 (KernelIdeal.Blk.A0 m c) (KernelIdeal.Blk.A1 m c) (KernelIdeal.Blk.A2 m c) (KernelIdeal.Blk.A3 m c) (KernelIdeal.Blk.A4 m c)
abbrev V1 (m : (ℓ : Loc Cert.KernelIdeal.nD Cert.KernelIdeal.τ Cert.KernelIdeal.sig) → Buf (Elt Ideal) ℓ) (c : Dev Cert.KernelIdeal.nD) :
    Vec Ideal Cert.KernelIdeal.S8x2048x4096 .fp8e4m3 :=
  Row.R1 (KernelIdeal.Blk.A0 m c) (KernelIdeal.Blk.A1 m c) (KernelIdeal.Blk.A2 m c) (KernelIdeal.Blk.A3 m c) (KernelIdeal.Blk.A4 m c) (KernelIdeal.Blk.A5 m c)
abbrev V2 (m : (ℓ : Loc Cert.KernelIdeal.nD Cert.KernelIdeal.τ Cert.KernelIdeal.sig) → Buf (Elt Ideal) ℓ) (c : Dev Cert.KernelIdeal.nD) :
    Vec Ideal Cert.KernelIdeal.S8x2048 .f32 :=
  Row.R2 (KernelIdeal.Blk.A0 m c) (KernelIdeal.Blk.A1 m c) (KernelIdeal.Blk.A2 m c) (KernelIdeal.Blk.A3 m c) (KernelIdeal.Blk.A4 m c) (KernelIdeal.Blk.A5 m c)

theorem algebraic : Cert.algebraic_KernelIdeal_ReferenceIdeal_pre_gain_is_finite (hKernelIdeal := Cert.KernelIdeal.Gen.facts)
    (hReferenceIdeal := Cert.ReferenceIdeal.Gen.facts) (hPre_gain_is_finite := Cert.Pre_gain_is_finite.Gen.facts) := by
  intro m g m' g' hpre hagree
  refine ⟨V0 m, V1 m, V2 m, ?_, ?_⟩
  · refine (θ_run _ _ _).mono (fun r h c => ?_) (Cert.KernelIdeal.Value.run_blocks m g)
    have hng := Cert.Pre_gain_is_finite.gain _ _ _ _ _ _ (hpre c)
    obtain ⟨h0, h1, h2, hk⟩ := h c
    exact ⟨h0.trans (KernelIdeal.Blk.final6 m c), h1.trans (KernelIdeal.Blk.final7 m c hng), h2.trans (KernelIdeal.Blk.final8 m c hng), hk⟩
  · refine (θ_run _ _ _).mono (fun r h c => ?_) (Cert.ReferenceIdeal.Value.run m' g')
    obtain ⟨h0, h1, h2, hk⟩ := h c
    obtain ⟨e0, e1, e2, e3, e4, e5⟩ := hagree c
    rw [e0, e1, e2, e3, e4, e5] at h0 h1 h2
    exact ⟨h0.trans (ReferenceIdeal.Whole.G6_eq _ _ _ _ _ _), h1.trans (ReferenceIdeal.Whole.G7_eq _ _ _ _ _ _),
      h2.trans (ReferenceIdeal.Whole.G8_eq _ _ _ _ _ _), hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_gain_is_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_gain_is_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  algebraic⟩

end Cert.Proof

end
